-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_top_k_unambiguous_pre_well_posed [hKernelIdeal : Cert.KernelIdeal.Facts] [hReferenceIdeal : Cert.ReferenceIdeal.Facts] [hPre_well_posed : Cert.Pre_well_posed.Facts] [hOn_top_k_unambiguous : Cert.On_top_k_unambiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3]⟩ : Shape).Idx, (Cert.On_top_k_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3]⟩ : Shape).Idx, (Cert.On_top_k_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v64) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed : Cert.Pre_well_posed.Facts) (hOn_top_k_unambiguous : Cert.On_top_k_unambiguous.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_on_top_k_unambiguous_pre_well_posed (hKernelIdeal := hKernelIdeal) (hReferenceIdeal := hReferenceIdeal) (hPre_well_posed := hPre_well_posed) (hOn_top_k_unambiguous := hOn_top_k_unambiguous)
-- ==== On_top_k_unambiguous.lean ====
abbrev S8192x2 : Shape := ⟨2, ![8192, 2]⟩
abbrev S1x2048x2 : Shape := ⟨3, ![1, 2048, 2]⟩
abbrev S1x2048x2x2 : Shape := ⟨4, ![1, 2048, 2, 2]⟩
abbrev S1x2048x3 : Shape := ⟨3, ![1, 2048, 3]⟩
abbrev S8192x1 : Shape := ⟨2, ![8192, 1]⟩
abbrev S8192 : Shape := ⟨1, ![8192]⟩
abbrev S1x2048x1 : Shape := ⟨3, ![1, 2048, 1]⟩
abbrev S1x2048 : Shape := ⟨2, ![1, 2048]⟩
abbrev S8192x2048 : Shape := ⟨2, ![8192, 2048]⟩
abbrev S1x2048x1x1 : Shape := ⟨4, ![1, 2048, 1, 1]⟩
abbrev S_ : Shape := ⟨0, ![]⟩
abbrev S8192x17 : Shape := ⟨2, ![8192, 17]⟩
abbrev S8192x3 : Shape := ⟨2, ![8192, 3]⟩

class Facts : Prop where
  slices_S8192x2_S8192x1_0_0 : S8192x2.Slices ![0, 0] S8192x1
  shapeCasts_S8192x1_S8192 : S8192x1.ShapeCasts S8192
  bcast_S8192_S8192x1_0 : S8192.BroadcastsInDim S8192x1 (![0] : Fin 1 → Fin S8192x1.rank)
  slices_S1x2048x2_S1x2048x1_0_0_0 : S1x2048x2.Slices ![0, 0, 0] S1x2048x1
  shapeCasts_S1x2048x1_S1x2048 : S1x2048x1.ShapeCasts S1x2048
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  slices_S8192x2_S8192x1_0_1 : S8192x2.Slices ![0, 1] S8192x1
  slices_S1x2048x2_S1x2048x1_0_0_1 : S1x2048x2.Slices ![0, 0, 1] S1x2048x1
  slices_S1x2048x2x2_S1x2048x1x1_0_0_0_0 : S1x2048x2x2.Slices ![0, 0, 0, 0] S1x2048x1x1
  shapeCasts_S1x2048x1x1_S1x2048 : S1x2048x1x1.ShapeCasts S1x2048
  slices_S1x2048x2x2_S1x2048x1x1_0_0_0_1 : S1x2048x2x2.Slices ![0, 0, 0, 1] S1x2048x1x1
  slices_S1x2048x2x2_S1x2048x1x1_0_0_1_0 : S1x2048x2x2.Slices ![0, 0, 1, 0] S1x2048x1x1
  slices_S1x2048x2x2_S1x2048x1x1_0_0_1_1 : S1x2048x2x2.Slices ![0, 0, 1, 1] S1x2048x1x1
  bcast_S_S8192x2048 : S_.BroadcastsInDim S8192x2048 (![] : Fin 0 → Fin S8192x2048.rank)
  sliceFits_S8192x2048_S8192x17 : S8192x2048.Slices (fun _ => 0) S8192x17
  slices_S8192x17_S8192x1_0_15 : S8192x17.Slices ![0, 15] S8192x1
  slices_S8192x17_S8192x1_0_16 : S8192x17.Slices ![0, 16] S8192x1
  bcast_S8192x1_S8192x3_0_1 : S8192x1.BroadcastsInDim S8192x3 (![0, 1] : Fin 2 → Fin S8192x3.rank)

variable [Facts]

def fn_where {F : FTy → Type} [FloatOps F] (arg0 : IVec S1x2048 1) (arg1 : FVec F S1x2048 .f32) (arg2 : FVec F S1x2048 .f32) : FVec F S1x2048 .f32 :=
  let v0 : FVec F S1x2048 .f32 := select arg0 arg1 arg2
  v0

def fn_where_0 {F : FTy → Type} [FloatOps F] (arg0 : IVec S1x2048 1) (arg1 : FVec F S8192x2048 .f32) (arg2 : FVec F S8192x2048 .f32) : FVec F S8192x2048 .f32 :=
  let v0 : IVec S8192x2048 1 := broadcastInDim S8192x2048 ![0, 1] bcast_S1x2048_S8192x2048_0_1 arg0
  let v1 : FVec F S8192x2048 .f32 := select v0 arg1 arg2
  v1

def fn_part2 {F : FTy → Type} [FloatOps F] (main_v46 : FVec F S8192x2048 .f32) (main_v47 : FVec F S8192x2048 .f32) : IVec S8192x3 1 :=
  let main_v48 : FVec F S8192x2048 .f32 := addf main_v46 main_v47
  let main_cst : FVec F S_ .f32 := constant S_ .f32 0xBF000000#32
  let main_v49 : FVec F S8192x2048 .f32 := broadcastInDim S8192x2048 ![] bcast_S_S8192x2048 main_cst
  let main_v50 : FVec F S8192x2048 .f32 := mulf main_v49 main_v48
  let main_v51 : FVec F S8192x2048 .f32 := Host.exp main_v50
  let main_values : FVec F S8192x17 .f32 := (fun x => (Host.topK S8192x17 1 (FloatOps.cmpfTotal .gt) x sliceFits_S8192x2048_S8192x17).1) main_v51
  let main_indices : IVec S8192x17 32 := (fun x => (Host.topK S8192x17 1 (FloatOps.cmpfTotal .gt) x sliceFits_S8192x2048_S8192x17).2) main_v51
  let main_v52 : FVec F S8192x1 .f32 := (extractStridedSlice S8192x1 ![0, 15] · slices_S8192x17_S8192x1_0_15) main_values
  let main_v53 : FVec F S8192 .f32 := shapeCast S8192 main_v52 shapeCasts_S8192x1_S8192
  let main_v54 : FVec F S8192x1 .f32 := (extractStridedSlice S8192x1 ![0, 16] · slices_S8192x17_S8192x1_0_16) main_values
  let main_v55 : FVec F S8192 .f32 := shapeCast S8192 main_v54 shapeCasts_S8192x1_S8192
  let main_v56 : IVec S8192 1 := cmpf .ogt main_v53 main_v55
  let main_v57 : IVec S8192x1 1 := broadcastInDim S8192x1 ![0] bcast_S8192_S8192x1_0 main_v56
  let main_v58 : IVec S8192x3 1 := broadcastInDim S8192x3 ![0, 1] bcast_S8192x1_S8192x3_0_1 main_v57
  main_v58

def fn_part1 {F : FTy → Type} [FloatOps F] (main_v7 : FVec F S8192x2048 .f32) (main_v15 : FVec F S8192x2048 .f32) (main_v17 : FVec F S1x2048 .f32) (main_v19 : FVec F S1x2048 .f32) (main_v21 : FVec F S1x2048 .f32) (main_v23 : FVec F S1x2048 .f32) : IVec S8192x3 1 :=
  let main_v24 : FVec F S1x2048 .f32 := Host.absf main_v21
  let main_v25 : FVec F S1x2048 .f32 := Host.absf main_v17
  let main_v26 : IVec S1x2048 1 := cmpf .ogt main_v24 main_v25
  let main_v27 : FVec F S1x2048 .f32 := fn_where (F := F) main_v26 main_v21 main_v17
  let main_v28 : FVec F S1x2048 .f32 := fn_where (F := F) main_v26 main_v23 main_v19
  let main_v29 : FVec F S8192x2048 .f32 := fn_where_0 (F := F) main_v26 main_v15 main_v7
  let main_v30 : FVec F S1x2048 .f32 := fn_where (F := F) main_v26 main_v17 main_v21
  let main_v31 : FVec F S1x2048 .f32 := fn_where (F := F) main_v26 main_v19 main_v23
  let main_v32 : FVec F S8192x2048 .f32 := fn_where_0 (F := F) main_v26 main_v7 main_v15
  let main_v33 : FVec F S1x2048 .f32 := Host.divf main_v30 main_v27
  let main_v34 : FVec F S8192x2048 .f32 := broadcastInDim S8192x2048 ![0, 1] bcast_S1x2048_S8192x2048_0_1 main_v33
  let main_v35 : FVec F S8192x2048 .f32 := mulf main_v34 main_v29
  let main_v36 : FVec F S8192x2048 .f32 := subf main_v32 main_v35
  let main_v37 : FVec F S1x2048 .f32 := mulf main_v33 main_v28
  let main_v38 : FVec F S1x2048 .f32 := subf main_v31 main_v37
  let main_v39 : FVec F S8192x2048 .f32 := broadcastInDim S8192x2048 ![0, 1] bcast_S1x2048_S8192x2048_0_1 main_v38
  let main_v40 : FVec F S8192x2048 .f32 := Host.divf main_v36 main_v39
  let main_v41 : FVec F S8192x2048 .f32 := broadcastInDim S8192x2048 ![0, 1] bcast_S1x2048_S8192x2048_0_1 main_v28
  let main_v42 : FVec F S8192x2048 .f32 := mulf main_v41 main_v40
  let main_v43 : FVec F S8192x2048 .f32 := subf main_v29 main_v42
  let main_v44 : FVec F S8192x2048 .f32 := broadcastInDim S8192x2048 ![0, 1] bcast_S1x2048_S8192x2048_0_1 main_v27
  let main_v45 : FVec F S8192x2048 .f32 := Host.divf main_v43 main_v44
  let main_v46 : FVec F S8192x2048 .f32 := mulf main_v7 main_v45
  let main_v47 : FVec F S8192x2048 .f32 := mulf main_v15 main_v40
  fn_part2 (F := F) main_v46 main_v47

def fn {F : FTy → Type} [FloatOps F] (main_arg0 : FVec F S8192x2 .f32) (main_arg1 : FVec F S1x2048x2 .f32) (main_arg2 : FVec F S1x2048x2x2 .f32) (main_arg3 : FVec F S1x2048x3 .f32) : IVec S8192x3 1 :=
  let main_v0 : FVec F S8192x1 .f32 := (extractStridedSlice S8192x1 ![0, 0] · slices_S8192x2_S8192x1_0_0) main_arg0
  let main_v1 : FVec F S8192 .f32 := shapeCast S8192 main_v0 shapeCasts_S8192x1_S8192
  let main_v2 : FVec F S8192x1 .f32 := broadcastInDim S8192x1 ![0] bcast_S8192_S8192x1_0 main_v1
  let main_v3 : FVec F S1x2048x1 .f32 := (extractStridedSlice S1x2048x1 ![0, 0, 0] · slices_S1x2048x2_S1x2048x1_0_0_0) main_arg1
  let main_v4 : FVec F S1x2048 .f32 := shapeCast S1x2048 main_v3 shapeCasts_S1x2048x1_S1x2048
  let main_v5 : FVec F S8192x2048 .f32 := broadcastInDim S8192x2048 ![0, 1] bcast_S8192x1_S8192x2048_0_1 main_v2
  let main_v6 : FVec F S8192x2048 .f32 := broadcastInDim S8192x2048 ![0, 1] bcast_S1x2048_S8192x2048_0_1 main_v4
  let main_v7 : FVec F S8192x2048 .f32 := subf main_v5 main_v6
  let main_v8 : FVec F S8192x1 .f32 := (extractStridedSlice S8192x1 ![0, 1] · slices_S8192x2_S8192x1_0_1) main_arg0
  let main_v9 : FVec F S8192 .f32 := shapeCast S8192 main_v8 shapeCasts_S8192x1_S8192
  let main_v10 : FVec F S8192x1 .f32 := broadcastInDim S8192x1 ![0] bcast_S8192_S8192x1_0 main_v9
  let main_v11 : FVec F S1x2048x1 .f32 := (extractStridedSlice S1x2048x1 ![0, 0, 1] · slices_S1x2048x2_S1x2048x1_0_0_1) main_arg1
  let main_v12 : FVec F S1x2048 .f32 := shapeCast S1x2048 main_v11 shapeCasts_S1x2048x1_S1x2048
  let main_v13 : FVec F S8192x2048 .f32 := broadcastInDim S8192x2048 ![0, 1] bcast_S8192x1_S8192x2048_0_1 main_v10
  let main_v14 : FVec F S8192x2048 .f32 := broadcastInDim S8192x2048 ![0, 1] bcast_S1x2048_S8192x2048_0_1 main_v12
  let main_v15 : FVec F S8192x2048 .f32 := subf main_v13 main_v14
  let main_v16 : FVec F S1x2048x1x1 .f32 := (extractStridedSlice S1x2048x1x1 ![0, 0, 0, 0] · slices_S1x2048x2x2_S1x2048x1x1_0_0_0_0) main_arg2
  let main_v17 : FVec F S1x2048 .f32 := shapeCast S1x2048 main_v16 shapeCasts_S1x2048x1x1_S1x2048
  let main_v18 : FVec F S1x2048x1x1 .f32 := (extractStridedSlice S1x2048x1x1 ![0, 0, 0, 1] · slices_S1x2048x2x2_S1x2048x1x1_0_0_0_1) main_arg2
  let main_v19 : FVec F S1x2048 .f32 := shapeCast S1x2048 main_v18 shapeCasts_S1x2048x1x1_S1x2048
  let main_v20 : FVec F S1x2048x1x1 .f32 := (extractStridedSlice S1x2048x1x1 ![0, 0, 1, 0] · slices_S1x2048x2x2_S1x2048x1x1_0_0_1_0) main_arg2
  let main_v21 : FVec F S1x2048 .f32 := shapeCast S1x2048 main_v20 shapeCasts_S1x2048x1x1_S1x2048
  let main_v22 : FVec F S1x2048x1x1 .f32 := (extractStridedSlice S1x2048x1x1 ![0, 0, 1, 1] · slices_S1x2048x2x2_S1x2048x1x1_0_0_1_1) main_arg2
  let main_v23 : FVec F S1x2048 .f32 := shapeCast S1x2048 main_v22 shapeCasts_S1x2048x1x1_S1x2048
  fn_part1 (F := F) main_v7 main_v15 main_v17 main_v19 main_v21 main_v23
-- ==== Pre_well_posed.lean ====
abbrev S8192x2 : Shape := ⟨2, ![8192, 2]⟩
abbrev S1x2048x2 : Shape := ⟨3, ![1, 2048, 2]⟩
abbrev S1x2048x2x2 : Shape := ⟨4, ![1, 2048, 2, 2]⟩
abbrev S1x2048x3 : Shape := ⟨3, ![1, 2048, 3]⟩
abbrev S1x2048x1x1 : Shape := ⟨4, ![1, 2048, 1, 1]⟩
abbrev S1x2048 : Shape := ⟨2, ![1, 2048]⟩
abbrev S_ : Shape := ⟨0, ![]⟩

class Facts : Prop where
  slices_S1x2048x2x2_S1x2048x1x1_0_0_0_0 : S1x2048x2x2.Slices ![0, 0, 0, 0] S1x2048x1x1
  shapeCasts_S1x2048x1x1_S1x2048 : S1x2048x1x1.ShapeCasts S1x2048
  slices_S1x2048x2x2_S1x2048x1x1_0_0_1_1 : S1x2048x2x2.Slices ![0, 0, 1, 1] S1x2048x1x1
  slices_S1x2048x2x2_S1x2048x1x1_0_0_0_1 : S1x2048x2x2.Slices ![0, 0, 0, 1] S1x2048x1x1
  slices_S1x2048x2x2_S1x2048x1x1_0_0_1_0 : S1x2048x2x2.Slices ![0, 0, 1, 0] S1x2048x1x1
  bcast_S_S8192x2 : S_.BroadcastsInDim S8192x2 (![] : Fin 0 → Fin S8192x2.rank)
  bcast_S_S1x2048x2 : S_.BroadcastsInDim S1x2048x2 (![] : Fin 0 → Fin S1x2048x2.rank)
  bcast_S_S1x2048x2x2 : S_.BroadcastsInDim S1x2048x2x2 (![] : Fin 0 → Fin S1x2048x2x2.rank)
  bcast_S_S1x2048 : S_.BroadcastsInDim S1x2048 (![] : Fin 0 → Fin S1x2048.rank)

variable [Facts]

def fn_part1 {F : FTy → Type} [FloatOps F] (main_v10 : FVec F S1x2048 .f32) (main_v13 : IVec S8192x2 1) (main_v16 : IVec S1x2048x2 1) (main_v19 : IVec S1x2048x2x2 1) (main_cst_2 : FVec F S_ .f32) : IVec S8192x2 1 × IVec S1x2048x2 1 × IVec S1x2048x2x2 1 × IVec S1x2048 1 :=
  let main_v20 : FVec F S1x2048 .f32 := broadcastInDim S1x2048 ![] bcast_S_S1x2048 main_cst_2
  let main_v21 : IVec S1x2048 1 := cmpf .une main_v10 main_v20
  (main_v13, main_v16, main_v19, main_v21)

def fn {F : FTy → Type} [FloatOps F] (main_arg0 : FVec F S8192x2 .f32) (main_arg1 : FVec F S1x2048x2 .f32) (main_arg2 : FVec F S1x2048x2x2 .f32) (main_arg3 : FVec F S1x2048x3 .f32) : IVec S8192x2 1 × IVec S1x2048x2 1 × IVec S1x2048x2x2 1 × IVec S1x2048 1 :=
  let main_v0 : FVec F S1x2048x1x1 .f32 := (extractStridedSlice S1x2048x1x1 ![0, 0, 0, 0] · slices_S1x2048x2x2_S1x2048x1x1_0_0_0_0) main_arg2
  let main_v1 : FVec F S1x2048 .f32 := shapeCast S1x2048 main_v0 shapeCasts_S1x2048x1x1_S1x2048
  let main_v2 : FVec F S1x2048x1x1 .f32 := (extractStridedSlice S1x2048x1x1 ![0, 0, 1, 1] · slices_S1x2048x2x2_S1x2048x1x1_0_0_1_1) main_arg2
  let main_v3 : FVec F S1x2048 .f32 := shapeCast S1x2048 main_v2 shapeCasts_S1x2048x1x1_S1x2048
  let main_v4 : FVec F S1x2048 .f32 := mulf main_v1 main_v3
  let main_v5 : FVec F S1x2048x1x1 .f32 := (extractStridedSlice S1x2048x1x1 ![0, 0, 0, 1] · slices_S1x2048x2x2_S1x2048x1x1_0_0_0_1) main_arg2
  let main_v6 : FVec F S1x2048 .f32 := shapeCast S1x2048 main_v5 shapeCasts_S1x2048x1x1_S1x2048
  let main_v7 : FVec F S1x2048x1x1 .f32 := (extractStridedSlice S1x2048x1x1 ![0, 0, 1, 0] · slices_S1x2048x2x2_S1x2048x1x1_0_0_1_0) main_arg2
  let main_v8 : FVec F S1x2048 .f32 := shapeCast S1x2048 main_v7 shapeCasts_S1x2048x1x1_S1x2048
  let main_v9 : FVec F S1x2048 .f32 := mulf main_v6 main_v8
  let main_v10 : FVec F S1x2048 .f32 := subf main_v4 main_v9
  let main_v11 : FVec F S8192x2 .f32 := Host.absf main_arg0
  let main_cst : FVec F S_ .f32 := constant S_ .f32 0x7F800000#32
  let main_v12 : FVec F S8192x2 .f32 := broadcastInDim S8192x2 ![] bcast_S_S8192x2 main_cst
  let main_v13 : IVec S8192x2 1 := cmpf .olt main_v11 main_v12
  let main_v14 : FVec F S1x2048x2 .f32 := Host.absf main_arg1
  let main_cst_0 : FVec F S_ .f32 := constant S_ .f32 0x7F800000#32
  let main_v15 : FVec F S1x2048x2 .f32 := broadcastInDim S1x2048x2 ![] bcast_S_S1x2048x2 main_cst_0
  let main_v16 : IVec S1x2048x2 1 := cmpf .olt main_v14 main_v15
  let main_v17 : FVec F S1x2048x2x2 .f32 := Host.absf main_arg2
  let main_cst_1 : FVec F S_ .f32 := constant S_ .f32 0x7F800000#32
  let main_v18 : FVec F S1x2048x2x2 .f32 := broadcastInDim S1x2048x2x2 ![] bcast_S_S1x2048x2x2 main_cst_1
  let main_v19 : IVec S1x2048x2x2 1 := cmpf .olt main_v17 main_v18
  let main_cst_2 : FVec F S_ .f32 := constant S_ .f32 0x00000000#32
  fn_part1 (F := F) main_v10 main_v13 main_v16 main_v19 main_cst_2
-- ==== Kernel.lean ====
abbrev S8192x2 : Shape := ⟨2, ![8192, 2]⟩
abbrev S1x2048x2 : Shape := ⟨3, ![1, 2048, 2]⟩
abbrev S1x2048x2x2 : Shape := ⟨4, ![1, 2048, 2, 2]⟩
abbrev S1x2048x3 : Shape := ⟨3, ![1, 2048, 3]⟩
abbrev S2048x2 : Shape := ⟨2, ![2048, 2]⟩
abbrev S2x2048 : Shape := ⟨2, ![2, 2048]⟩
abbrev S2048x2x2 : Shape := ⟨3, ![2048, 2, 2]⟩
abbrev S2048x4 : Shape := ⟨2, ![2048, 4]⟩
abbrev S4x2048 : Shape := ⟨2, ![4, 2048]⟩
abbrev S2048x3 : Shape := ⟨2, ![2048, 3]⟩
abbrev S_ : Shape := ⟨0, ![]⟩
abbrev S2048x1 : Shape := ⟨2, ![2048, 1]⟩
abbrev S64 : Shape := ⟨1, ![64]⟩
abbrev S1x64 : Shape := ⟨2, ![1, 64]⟩
abbrev S16 : Shape := ⟨1, ![16]⟩
abbrev S16x1 : Shape := ⟨2, ![16, 1]⟩
abbrev S16x64 : Shape := ⟨2, ![16, 64]⟩
abbrev S64x1 : Shape := ⟨2, ![64, 1]⟩
abbrev S3 : Shape := ⟨1, ![3]⟩
abbrev S1x3 : Shape := ⟨2, ![1, 3]⟩
abbrev S64x3 : Shape := ⟨2, ![64, 3]⟩
abbrev S8192x3 : Shape := ⟨2, ![8192, 3]⟩
abbrev S256x2 : Shape := ⟨2, ![256, 2]⟩
abbrev S256x3 : Shape := ⟨2, ![256, 3]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S256x4 : Shape := ⟨2, ![256, 4]⟩
abbrev S256x16 : Shape := ⟨2, ![256, 16]⟩
abbrev S256x64 : Shape := ⟨2, ![256, 64]⟩
abbrev S256x15 : Shape := ⟨2, ![256, 15]⟩
abbrev S256x14 : Shape := ⟨2, ![256, 14]⟩
abbrev S256x12 : Shape := ⟨2, ![256, 12]⟩
abbrev S256x8 : Shape := ⟨2, ![256, 8]⟩

abbrev nBuf : Space → Nat
  | .hbm => 70
  | .vmem => 9
  | .smem => 0
  | _ => 0

abbrev bufTy : (tb : Table) → Fin (tcTables nBuf tb) → BufTy
  | .hbm, ⟨0, _⟩ => ⟨S8192x2, .f32⟩
  | .hbm, ⟨1, _⟩ => ⟨S1x2048x2, .f32⟩
  | .hbm, ⟨2, _⟩ => ⟨S1x2048x2x2, .f32⟩
  | .hbm, ⟨3, _⟩ => ⟨S1x2048x3, .f32⟩
  | .hbm, ⟨4, _⟩ => ⟨S2048x2, .f32⟩
  | .hbm, ⟨5, _⟩ => ⟨S2x2048, .f32⟩
  | .hbm, ⟨6, _⟩ => ⟨S2048x2x2, .f32⟩
  | .hbm, ⟨7, _⟩ => ⟨S2048x4, .f32⟩
  | .hbm, ⟨8, _⟩ => ⟨S4x2048, .f32⟩
  | .hbm, ⟨9, _⟩ => ⟨S2048x3, .f32⟩
  | .hbm, ⟨10, _⟩ => ⟨S_, .f32⟩
  | .hbm, ⟨11, _⟩ => ⟨S2048x1, .f32⟩
  | .hbm, ⟨12, _⟩ => ⟨S2048x4, .f32⟩
  | .hbm, ⟨13, _⟩ => ⟨S64, .i32⟩
  | .hbm, ⟨14, _⟩ => ⟨S_, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S64, .i1⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S1x64, .i32⟩
  | .hbm, ⟨33, _⟩ => ⟨S16, .i32⟩
  | .hbm, ⟨34, _⟩ => ⟨S16x1, .i32⟩
  | .hbm, ⟨35, _⟩ => ⟨S16x64, .i32⟩
  | .hbm, ⟨36, _⟩ => ⟨S16x64, .i32⟩
  | .hbm, ⟨37, _⟩ => ⟨S16x64, .i1⟩
  | .hbm, ⟨38, _⟩ => ⟨S16x64, .f32⟩
  | .hbm, ⟨39, _⟩ => ⟨S64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S_, .i32⟩
  | .hbm, ⟨49, _⟩ => ⟨S64, .i32⟩
  | .hbm, ⟨50, _⟩ => ⟨S64, .i1⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S_, .i1⟩
  | .hbm, ⟨56, _⟩ => ⟨S64, .i1⟩
  | .hbm, ⟨57, _⟩ => ⟨S64, .i1⟩
  | .hbm, ⟨58, _⟩ => ⟨S64, .i1⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64x1, .i32⟩
  | .hbm, ⟨63, _⟩ => ⟨S3, .i32⟩
  | .hbm, ⟨64, _⟩ => ⟨S1x3, .i32⟩
  | .hbm, ⟨65, _⟩ => ⟨S64x3, .i32⟩
  | .hbm, ⟨66, _⟩ => ⟨S64x3, .i32⟩
  | .hbm, ⟨67, _⟩ => ⟨S64x3, .i1⟩
  | .hbm, ⟨68, _⟩ => ⟨S64x3, .f32⟩
  | .hbm, ⟨69, _⟩ => ⟨S8192x3, .f32⟩
  | .local _ .vmem, ⟨0, _⟩ => ⟨S256x2, .f32⟩
  | .local _ .vmem, ⟨1, _⟩ => ⟨S256x2, .f32⟩
  | .local _ .vmem, ⟨2, _⟩ => ⟨S2x2048, .f32⟩
  | .local _ .vmem, ⟨3, _⟩ => ⟨S4x2048, .f32⟩
  | .local _ .vmem, ⟨4, _⟩ => ⟨S2048x4, .f32⟩
  | .local _ .vmem, ⟨5, _⟩ => ⟨S16x64, .f32⟩
  | .local _ .vmem, ⟨6, _⟩ => ⟨S64x3, .f32⟩
  | .local _ .vmem, ⟨7, _⟩ => ⟨S256x3, .f32⟩
  | .local _ .vmem, ⟨8, _⟩ => ⟨S256x3, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_cst : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_c_0 : Ref sig .tc := ⟨.hbm, 40, rfl⟩
abbrev main_call0_call1_v0 : Ref sig .tc := ⟨.hbm, 41, rfl⟩
abbrev main_call0_call1_c : Ref sig .tc := ⟨.hbm, 42, rfl⟩
abbrev main_call0_call1_v1 : Ref sig .tc := ⟨.hbm, 43, rfl⟩
abbrev main_call0_call1_c_0 : Ref sig .tc := ⟨.hbm, 44, rfl⟩
abbrev main_call0_call1_v2 : Ref sig .tc := ⟨.hbm, 45, rfl⟩
abbrev main_call0_call1_v3 : Ref sig .tc := ⟨.hbm, 46, rfl⟩
abbrev main_call0_call1_v4 : Ref sig .tc := ⟨.hbm, 47, rfl⟩
abbrev main_call0_call1_c_1 : Ref sig .tc := ⟨.hbm, 48, rfl⟩
abbrev main_call0_call1_v5 : Ref sig .tc := ⟨.hbm, 49, rfl⟩
abbrev main_call0_call1_v6 : Ref sig .tc := ⟨.hbm, 50, rfl⟩
abbrev main_call0_call1_c_2 : Ref sig .tc := ⟨.hbm, 51, rfl⟩
abbrev main_call0_call1_v7 : Ref sig .tc := ⟨.hbm, 52, rfl⟩
abbrev main_call0_call1_v8 : Ref sig .tc := ⟨.hbm, 53, rfl⟩
abbrev main_call0_call1_c_3 : Ref sig .tc := ⟨.hbm, 54, rfl⟩
abbrev main_call0_call1_v9 : Ref sig .tc := ⟨.hbm, 55, rfl⟩
abbrev main_call0_call1_v10 : Ref sig .tc := ⟨.hbm, 56, rfl⟩
abbrev main_call0_call1_v11 : Ref sig .tc := ⟨.hbm, 57, rfl⟩
abbrev main_call0_call1_v12 : Ref sig .tc := ⟨.hbm, 58, rfl⟩
abbrev main_call0_call1_v13 : Ref sig .tc := ⟨.hbm, 59, rfl⟩
abbrev main_call0_call1_v14 : Ref sig .tc := ⟨.hbm, 60, rfl⟩
abbrev main_call0_v18 : Ref sig .tc := ⟨.hbm, 61, rfl⟩
abbrev main_call0_v19 : Ref sig .tc := ⟨.hbm, 62, rfl⟩
abbrev main_call0_v20 : Ref sig .tc := ⟨.hbm, 63, rfl⟩
abbrev main_call0_v21 : Ref sig .tc := ⟨.hbm, 64, rfl⟩
abbrev main_call0_v22 : Ref sig .tc := ⟨.hbm, 65, rfl⟩
abbrev main_call0_v23 : Ref sig .tc := ⟨.hbm, 66, rfl⟩
abbrev main_call0_v24 : Ref sig .tc := ⟨.hbm, 67, rfl⟩
abbrev main_call0_v25 : Ref sig .tc := ⟨.hbm, 68, rfl⟩
abbrev main_v0 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x2 : Shape := ⟨2, ![8192, 2]⟩
abbrev S1x2048x2 : Shape := ⟨3, ![1, 2048, 2]⟩
abbrev S1x2048x2x2 : Shape := ⟨4, ![1, 2048, 2, 2]⟩
abbrev S1x2048x3 : Shape := ⟨3, ![1, 2048, 3]⟩
abbrev S8192x1 : Shape := ⟨2, ![8192, 1]⟩
abbrev S8192 : Shape := ⟨1, ![8192]⟩
abbrev S1x2048x1 : Shape := ⟨3, ![1, 2048, 1]⟩
abbrev S1x2048 : Shape := ⟨2, ![1, 2048]⟩
abbrev S8192x2048 : Shape := ⟨2, ![8192, 2048]⟩
abbrev S1x2048x1x1 : Shape := ⟨4, ![1, 2048, 1, 1]⟩
abbrev S_ : Shape := ⟨0, ![]⟩
abbrev S8192x16 : Shape := ⟨2, ![8192, 16]⟩
abbrev S8192x16x1 : Shape := ⟨3, ![8192, 16, 1]⟩
abbrev S8192x2048x3 : Shape := ⟨3, ![8192, 2048, 3]⟩
abbrev S8192x16x3 : Shape := ⟨3, ![8192, 16, 3]⟩
abbrev S8192x16x3x1 : Shape := ⟨4, ![8192, 16, 3, 1]⟩
abbrev S1 : Shape := ⟨1, ![1]⟩
abbrev S1x1x1x1 : Shape := ⟨4, ![1, 1, 1, 1]⟩
abbrev S8192x3 : Shape := ⟨2, ![8192, 3]⟩

abbrev nBuf : Space → Nat
  | .hbm => 98
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S1x2048x2, .f32⟩
  | .hbm, ⟨2, _⟩ => ⟨S1x2048x2x2, .f32⟩
  | .hbm, ⟨3, _⟩ => ⟨S1x2048x3, .f32⟩
  | .hbm, ⟨4, _⟩ => ⟨S8192x1, .f32⟩
  | .hbm, ⟨5, _⟩ => ⟨S8192, .f32⟩
  | .hbm, ⟨6, _⟩ => ⟨S8192x1, .f32⟩
  | .hbm, ⟨7, _⟩ => ⟨S1x2048x1, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S1x2048x1, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048x1x1, .f32⟩
  | .hbm, ⟨21, _⟩ => ⟨S1x2048, .f32⟩
  | .hbm, ⟨22, _⟩ => ⟨S1x2048x1x1, .f32⟩
  | .hbm, ⟨23, _⟩ => ⟨S1x2048, .f32⟩
  | .hbm, ⟨24, _⟩ => ⟨S1x2048x1x1, .f32⟩
  | .hbm, ⟨25, _⟩ => ⟨S1x2048, .f32⟩
  | .hbm, ⟨26, _⟩ => ⟨S1x2048x1x1, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .i1⟩
  | .hbm, ⟨31, _⟩ => ⟨S1x2048, .f32⟩
  | .hbm, ⟨32, _⟩ => ⟨S1x2048, .f32⟩
  | .hbm, ⟨33, _⟩ => ⟨S8192x2048, .i1⟩
  | .hbm, ⟨34, _⟩ => ⟨S8192x2048, .f32⟩
  | .hbm, ⟨35, _⟩ => ⟨S1x2048, .f32⟩
  | .hbm, ⟨36, _⟩ => ⟨S1x2048, .f32⟩
  | .hbm, ⟨37, _⟩ => ⟨S8192x2048, .i1⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x16, .f32⟩
  | .hbm, ⟨60, _⟩ => ⟨S8192x16, .i32⟩
  | .hbm, ⟨61, _⟩ => ⟨S8192x16x1, .f32⟩
  | .hbm, ⟨62, _⟩ => ⟨S8192x2048x3, .f32⟩
  | .hbm, ⟨63, _⟩ => ⟨S8192x16x1, .i32⟩
  | .hbm, ⟨64, _⟩ => ⟨S8192x16x3, .i32⟩
  | .hbm, ⟨65, _⟩ => ⟨S_, .i32⟩
  | .hbm, ⟨66, _⟩ => ⟨S8192x16x3, .i32⟩
  | .hbm, ⟨67, _⟩ => ⟨S8192x16x3, .i1⟩
  | .hbm, ⟨68, _⟩ => ⟨S_, .i32⟩
  | .hbm, ⟨69, _⟩ => ⟨S8192x16x3, .i32⟩
  | .hbm, ⟨70, _⟩ => ⟨S8192x16x3, .i32⟩
  | .hbm, ⟨71, _⟩ => ⟨S8192x16x3, .i32⟩
  | .hbm, ⟨72, _⟩ => ⟨S8192x16x3x1, .i32⟩
  | .hbm, ⟨73, _⟩ => ⟨S1, .i32⟩
  | .hbm, ⟨74, _⟩ => ⟨S_, .i32⟩
  | .hbm, ⟨75, _⟩ => ⟨S8192x16x3x1, .i32⟩
  | .hbm, ⟨76, _⟩ => ⟨S8192x16x3x1, .i1⟩
  | .hbm, ⟨77, _⟩ => ⟨S1x1x1x1, .i32⟩
  | .hbm, ⟨78, _⟩ => ⟨S8192x16x3x1, .i32⟩
  | .hbm, ⟨79, _⟩ => ⟨S8192x16x3x1, .i1⟩
  | .hbm, ⟨80, _⟩ => ⟨S8192x16x3x1, .i1⟩
  | .hbm, ⟨81, _⟩ => ⟨S_, .i1⟩
  | .hbm, ⟨82, _⟩ => ⟨S8192x16x3, .i1⟩
  | .hbm, ⟨83, _⟩ => ⟨S8192x16x3, .f32⟩
  | .hbm, ⟨84, _⟩ => ⟨S_, .f32⟩
  | .hbm, ⟨85, _⟩ => ⟨S8192x16x3, .f32⟩
  | .hbm, ⟨86, _⟩ => ⟨S8192x16x3, .f32⟩
  | .hbm, ⟨87, _⟩ => ⟨S8192x16x3, .f32⟩
  | .hbm, ⟨88, _⟩ => ⟨S8192x16x3, .f32⟩
  | .hbm, ⟨89, _⟩ => ⟨S_, .f32⟩
  | .hbm, ⟨90, _⟩ => ⟨S8192x3, .f32⟩
  | .hbm, ⟨91, _⟩ => ⟨S_, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x3, .f32⟩
  | .hbm, ⟨97, _⟩ => ⟨S8192x3, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call2_v0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call5_v0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_values : Ref sig .tc := ⟨.hbm, 59, rfl⟩
abbrev main_indices : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_call6_c : Ref sig .tc := ⟨.hbm, 65, rfl⟩
abbrev main_call6_v0 : Ref sig .tc := ⟨.hbm, 66, rfl⟩
abbrev main_call6_v1 : Ref sig .tc := ⟨.hbm, 67, rfl⟩
abbrev main_call6_c_0 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_call6_v5 : Ref sig .tc := ⟨.hbm, 72, rfl⟩
abbrev main_call6_c_1 : Ref sig .tc := ⟨.hbm, 73, rfl⟩
abbrev main_call6_c_2 : Ref sig .tc := ⟨.hbm, 74, rfl⟩
abbrev main_call6_v6 : Ref sig .tc := ⟨.hbm, 75, rfl⟩
abbrev main_call6_v7 : Ref sig .tc := ⟨.hbm, 76, rfl⟩
abbrev main_call6_v8 : Ref sig .tc := ⟨.hbm, 77, rfl⟩
abbrev main_call6_v9 : Ref sig .tc := ⟨.hbm, 78, rfl⟩
abbrev main_call6_v10 : Ref sig .tc := ⟨.hbm, 79, rfl⟩
abbrev main_call6_v11 : Ref sig .tc := ⟨.hbm, 80, rfl⟩
abbrev main_call6_c_3 : Ref sig .tc := ⟨.hbm, 81, rfl⟩
abbrev main_call6_v12 : Ref sig .tc := ⟨.hbm, 82, rfl⟩
abbrev main_call6_v13 : Ref sig .tc := ⟨.hbm, 83, rfl⟩
abbrev main_call6_cst : Ref sig .tc := ⟨.hbm, 84, rfl⟩
abbrev main_call6_v14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_0 : Ref sig .tc := ⟨.hbm, 89, rfl⟩
abbrev main_v59 : Ref sig .tc := ⟨.hbm, 90, rfl⟩
abbrev main_cst_1 : Ref sig .tc := ⟨.hbm, 91, rfl⟩
abbrev main_v60 : Ref sig .tc := ⟨.hbm, 92, rfl⟩
abbrev main_cst_2 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Proof.KernelTerm.lean ====
/- The kernel's block function as sixteen rounds of one step.

   One round takes the distances `q` of a block (256 rows, 2048 Gaussians), finds each row's least
   distance, marks the Gaussians at it, and replaces them by plus infinity for the next round.  The
   generated block function spells sixteen such rounds out; here it is put as one step, iterated. -/
module

public import proofs.«01_k».proof.Proof.Gen.KernelIdeal.Value
public import Idealize.ShloMosaic.Lib.Pipeline.Value

@[expose] public section

noncomputable section

namespace Cert.KernelTerm

open Idealize.ShloMosaic Idealize.SL.Sem Cert.KernelIdeal Cert.KernelIdeal.Gen

variable {F : FTy → Type} [FloatOps F]

/-- Each row's least entry, as a column. -/
def least (q : FVec F S256x2048 .f32) : FVec F S256x1 .f32 :=
  shapeCast S256x1 (multiReduction .minimumf [1] S256 q 0x7F800000#32 reduces_S256x2048_S256 (.inl rfl) rfl) shapeCasts_S256_S256x1

/-- Where an entry equals its row's least entry. -/
def marks (q : FVec F S256x2048 .f32) : IVec S256x2048 1 :=
  cmpf .oeq q (broadcastTo S256x2048 (least q) broadcasts_S256x1_S256x2048)

/-- The entries with the least ones replaced by plus infinity. -/
def raise (q : FVec F S256x2048 .f32) : FVec F S256x2048 .f32 :=
  select (marks q) (broadcast S256x2048 (Scalar.ofBits .f32 0x7F800000#32)) q

/-- The marks of `q` as numbers, times the four columns `w` (three colours and a column of ones). -/
def gathered (w : FVec F S2048x4 .f32) (q : FVec F S256x2048 .f32) : FVec F S256x4 .f32 :=
  matmul dot_S256x2048_S2048x4_S256x4_1_0_0_1_n_n none (sitofp .f32 (extui 32 (marks q) natLt_1_32)) w (constant S256x4 .f32 0x00000000#32)

/-- The entries after `n` rounds. -/
def rounds (q : FVec F S256x2048 .f32) : Nat → FVec F S256x2048 .f32
  | 0 => q
  | n + 1 => raise (rounds q n)

/-- The sixteen least entries of each row, one column per round. -/
def leasts (q : FVec F S256x2048 .f32) : FVec F S256x16 .f32 :=
  concatenate S256x16 1 (List.ofFn fun n : Fin 16 => ⟨S256x1, least (rounds q n)⟩)
    concatenates_S256x1_S256x1_S256x1_S256x1_S256x1_S256x1_S256x1_S256x1_S256x1_S256x1_S256x1_S256x1_S256x1_S256x1_S256x1_S256x1_S256x16_d1

/-- Every round's gathered columns side by side: column `4 n + c` is round `n`'s column `c`. -/
def columns (w : FVec F S2048x4 .f32) (q : FVec F S256x2048 .f32) : FVec F S256x64 .f32 :=
  concatenate S256x64 1 (List.ofFn fun n : Fin 16 => ⟨S256x4, gathered w (rounds q n)⟩)
    concatenates_S256x4_S256x4_S256x4_S256x4_S256x4_S256x4_S256x4_S256x4_S256x4_S256x4_S256x4_S256x4_S256x4_S256x4_S256x4_S256x4_S256x64_d1

/-- Every round's count of marked Gaussians: the gathered columns of ones. -/
def counts (w : FVec F S2048x4 .f32) (q : FVec F S256x2048 .f32) : FVec F S256x16 .f32 :=
  concatenate S256x16 1 (List.ofFn fun n : Fin 16 =>
      ⟨S256x1, extractStridedSlice S256x1 ![0, 3] (gathered w (rounds q n)) slices_S256x4_o0_3_S256x1⟩)
    concatenates_S256x1_S256x1_S256x1_S256x1_S256x1_S256x1_S256x1_S256x1_S256x1_S256x1_S256x1_S256x1_S256x1_S256x1_S256x1_S256x1_S256x16_d1

/-- `c` plus itself moved right by one column. -/
def shift1 (c : FVec F S256x16 .f32) : FVec F S256x16 .f32 :=
  addf c (concatenate S256x16 1 [⟨S256x1, broadcast S256x1 (Scalar.ofBits .f32 0x00000000#32)⟩,
    ⟨S256x15, extractStridedSlice S256x15 ![0, 0] c slices_S256x16_o0_0_S256x15⟩] concatenates_S256x1_S256x15_S256x16_d1)

/-- `c` plus itself moved right by two columns. -/
def shift2 (c : FVec F S256x16 .f32) : FVec F S256x16 .f32 :=
  addf c (concatenate S256x16 1 [⟨S256x2, broadcast S256x2 (Scalar.ofBits .f32 0x00000000#32)⟩,
    ⟨S256x14, extractStridedSlice S256x14 ![0, 0] c slices_S256x16_o0_0_S256x14⟩] concatenates_S256x2_S256x14_S256x16_d1)

/-- `c` plus itself moved right by four columns. -/
def shift4 (c : FVec F S256x16 .f32) : FVec F S256x16 .f32 :=
  addf c (concatenate S256x16 1 [⟨S256x4, broadcast S256x4 (Scalar.ofBits .f32 0x00000000#32)⟩,
    ⟨S256x12, extractStridedSlice S256x12 ![0, 0] c slices_S256x16_o0_0_S256x12⟩] concatenates_S256x4_S256x12_S256x16_d1)

/-- `c` plus itself moved right by eight columns. -/
def shift8 (c : FVec F S256x16 .f32) : FVec F S256x16 .f32 :=
  addf c (concatenate S256x16 1 [⟨S256x8, broadcast S256x8 (Scalar.ofBits .f32 0x00000000#32)⟩,
    ⟨S256x8, extractStridedSlice S256x8 ![0, 0] c slices_S256x16_o0_0_S256x8⟩] concatenates_S256x8_S256x8_S256x16_d1)

/-- How many of a round's Gaussians are still wanted: the count, cut to what is left of sixteen. -/
def allowed (c : FVec F S256x16 .f32) : FVec F S256x16 .f32 :=
  minimumf c (maximumf (broadcast S256x16 (Scalar.ofBits .f32 0x00000000#32))
    (subf (broadcast S256x16 (Scalar.ofBits .f32 0x41800000#32)) (subf (shift8 (shift4 (shift2 (shift1 c)))) c)))

/-- The Gaussian value of each round's distance. -/
def values (v : FVec F S256x16 .f32) : FVec F S256x16 .f32 :=
  exp (mulf (broadcast S256x16 (Scalar.ofBits .f32 0xBF000000#32)) v)

/-- The denominators: the wanted values' sum, plus the small constant. -/
def denoms (c v : FVec F S256x16 .f32) : FVec F S256x1 .f32 :=
  addf (shapeCast S256x1 (multiReduction .add [1] S256 (mulf (allowed c) (values v)) 0x00000000#32 reduces_S256x16_S256 (.inl rfl) rfl)
    shapeCasts_S256_S256x1) (broadcast S256x1 (Scalar.ofBits .f32 0x358637BD#32))

/-- Each round's weight: the wanted share of its Gaussians, times their value. -/
def weights (c v : FVec F S256x16 .f32) : FVec F S256x16 .f32 := mulf (divf (allowed c) c) (values v)

/-- The block's result from its distances `q`, the columns `w`, and the two spreading matrices. -/
def blockOf (q : FVec F S256x2048 .f32) (w : FVec F S2048x4 .f32) (e : FVec F S16x64 .f32) (ch : FVec F S64x3 .f32) :
    FVec F S256x3 .f32 :=
  divf (matmul dot_S256x64_S64x3_S256x3_1_0_0_1_n_n none
      (mulf (matmul dot_S256x16_S16x64_S256x64_1_0_0_1_n_n none (weights (counts w q) (leasts q)) e (constant S256x64 .f32 0x00000000#32))
        (columns w q)) ch (constant S256x3 .f32 0x00000000#32))
    (broadcastTo S256x3 (denoms (counts w q) (leasts q)) broadcasts_S256x1_S256x3)

/-- The block function's stored payload is `blockOf` of the distances it computes. -/
theorem out0_6_eq (x0 : Vec F S256x2 .f32) (x1 : Vec F S2x2048 .f32) (x2 : Vec F S4x2048 .f32) (x3 : Vec F S2048x4 .f32)
    (x4 : Vec F S16x64 .f32) (x5 : Vec F S64x3 .f32) :
    out0_6 x0 x1 x2 x3 x4 x5 = blockOf (k0_pay3 x0 x1 x2) x3 x4 x5 := by
  have h0 : View.ld x0 r0_0 = x0 := View.ld_unit_zero (by decide) _ _
  have h1 : View.ld x1 r0_1 = x1 := View.ld_unit_zero (by decide) _ _
  have h2 : View.ld x2 r0_2 = x2 := View.ld_unit_zero (by decide) _ _
  have h3 : View.ld x3 r0_3 = x3 := View.ld_unit_zero (by decide) _ _
  have h4 : View.ld x4 r0_4 = x4 := View.ld_unit_zero (by decide) _ _
  have h5 : View.ld x5 r0_5 = x5 := View.ld_unit_zero (by decide) _ _
  have e3 : k0_pay2 x3 = x3 := shapeCast_self _ _
  have e4 : shapeCast S16x64 x4 shapeCasts_S16x64_S16x64 = x4 := shapeCast_self _ _
  have e5 : shapeCast S64x3 x5 shapeCasts_S64x3_S64x3 = x5 := shapeCast_self _ _
  have key : k0_pay1 (columns (k0_pay2 (View.ld x3 r0_3)) (k0_pay3 (View.ld x0 r0_0) (View.ld x1 r0_1) (View.ld x2 r0_2)))
      (denoms (counts (k0_pay2 (View.ld x3 r0_3)) (k0_pay3 (View.ld x0 r0_0) (View.ld x1 r0_1) (View.ld x2 r0_2)))
        (leasts (k0_pay3 (View.ld x0 r0_0) (View.ld x1 r0_1) (View.ld x2 r0_2))))
      (weights (counts (k0_pay2 (View.ld x3 r0_3)) (k0_pay3 (View.ld x0 r0_0) (View.ld x1 r0_1) (View.ld x2 r0_2)))
        (leasts (k0_pay3 (View.ld x0 r0_0) (View.ld x1 r0_1) (View.ld x2 r0_2)))) x4 x5
      = blockOf (k0_pay3 x0 x1 x2) x3 x4 x5 := by
    unfold blockOf k0_pay1
    rw [h0, h1, h2, h3, e3, e4, e5]
  refine Eq.trans ?_ key
  refine (View.canon_unit_zero (by decide) _ _).trans ?_
  rw [h4, h5]
  rfl

end Cert.KernelTerm

end
-- ==== Proof.Select.lean ====
/- Sixteen rounds of "take every Gaussian at the least remaining distance" select a top set.

   This module is about one row: `q g` is Gaussian `g`'s distance.  A round marks every Gaussian at the
   least entry and raises those entries to plus infinity.  If some set `S` of sixteen Gaussians has
   only distances below every other Gaussian's, then the rounds, each weighted by how many Gaussians
   are still wanted, add up to the sum over `S`. -/
module

public import Idealize.ShloMosaic.PureOps.Ideal
public import Mathlib.Data.EReal.Operations
public import Mathlib.Data.EReal.Inv

@[expose] public section

noncomputable section

namespace Cert.Select

open Idealize.ShloMosaic

variable {G : ℕ}

/-- The least entry. -/
def lo (q : Fin G → EReal) : EReal := Finset.univ.inf q

/-- The positions of the least entry. -/
def hits (q : Fin G → EReal) : Finset (Fin G) := Finset.univ.filter fun g => q g = lo q

/-- The entries with the least ones raised to plus infinity. -/
def lift (q : Fin G → EReal) : Fin G → EReal := fun g => if q g = lo q then ⊤ else q g

/-- The entries after `n` rounds. -/
def iter (q : Fin G → EReal) : ℕ → Fin G → EReal
  | 0 => q
  | n + 1 => lift (iter q n)

/-- How many positions round `n` marks. -/
def count (q : Fin G → EReal) (n : ℕ) : ℕ := (hits (iter q n)).card

/-- How many positions the rounds before `n` marked. -/
def before (q : Fin G → EReal) (n : ℕ) : ℕ := ∑ s ∈ Finset.range n, count q s

/-- How many of round `n`'s positions are still wanted, of sixteen. -/
def take (q : Fin G → EReal) (n : ℕ) : ℕ := min (count q n) (16 - before q n)

/-- A finite nonnegative factor goes through a sum of extended reals. -/
theorem mul_sum_of_nonneg {ι : Type*} (s : Finset ι) (f : ι → EReal) (x : EReal) (h0 : 0 ≤ x) (ht : x ≠ ⊤) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- A nonzero number divided by itself is one. -/
theorem div_self_nat (n : ℕ) (h : n ≠ 0) : Ideal.div (n : EReal) (n : EReal) = 1 := by
  have hn : (n : EReal) ≠ 0 := by exact_mod_cast h
  unfold Ideal.div
  rw [if_neg hn]
  exact EReal.div_self (EReal.natCast_ne_bot n) (EReal.natCast_ne_top n) hn

/-- Zero divided by a nonzero number is zero. -/
theorem zero_div_nat (n : ℕ) (h : n ≠ 0) : Ideal.div 0 (n : EReal) = 0 := by
  have hn : (n : EReal) ≠ 0 := by exact_mod_cast h
  unfold Ideal.div
  rw [if_neg hn, zero_mul]

/-- Some position holds the least entry. -/
theorem hits_nonempty (hG : 0 < G) (q : Fin G → EReal) : (hits q).Nonempty := by
  obtain ⟨g, _, hg⟩ := Finset.exists_mem_eq_inf Finset.univ ⟨⟨0, hG⟩, Finset.mem_univ _⟩ q
  exact ⟨g, Finset.mem_filter.mpr ⟨Finset.mem_univ _, hg.symm⟩⟩

/-- Every round finds at least one entry. -/
theorem count_ne_zero (hG : 0 < G) (q : Fin G → EReal) (n : ℕ) : count q n ≠ 0 :=
  Finset.card_ne_zero.mpr (hits_nonempty hG _)

variable (q : Fin G → EReal) (e : EReal → EReal) (w : Fin G → EReal)

/-- Round `r`'s part of the weighted sum of `w`. -/
def part (r : ℕ) : EReal :=
  Ideal.div (take q r : EReal) (count q r : EReal) * e (lo (iter q r)) * ∑ g ∈ hits (iter q r), w g

/-- Round `r`'s part of the sum of the values. -/
def mass (r : ℕ) : EReal := (take q r : EReal) * e (lo (iter q r))

/-- What holds after `r` rounds: the positions raised so far are some set `A`, and either `A` is a proper
    part of `S`, each of its positions counted once, or the rounds have already summed over all of `S`. -/
def State (S : Finset (Fin G)) (r : ℕ) : Prop :=
  ∃ A : Finset (Fin G), (∀ g, iter q r g = if g ∈ A then ⊤ else q g) ∧
    ((A ⊂ S ∧ before q r = A.card ∧ r ≤ A.card
        ∧ ∑ s ∈ Finset.range r, part q e w s = ∑ g ∈ A, e (q g) * w g
        ∧ ∑ s ∈ Finset.range r, mass q e s = ∑ g ∈ A, e (q g))
      ∨ (16 ≤ before q r
        ∧ ∑ s ∈ Finset.range r, part q e w s = ∑ g ∈ S, e (q g) * w g
        ∧ ∑ s ∈ Finset.range r, mass q e s = ∑ g ∈ S, e (q g)))

variable {q e}

/-- One more round keeps the state: where the top set is not yet whole, the round's least entries all belong to it. -/
theorem state_succ (hG : 0 < G) (hq : ∀ g, q g < ⊤) (he : ∀ g, 0 ≤ e (q g) ∧ e (q g) ≠ ⊤) {S : Finset (Fin G)}
    (hS : S.card = 16) (hsep : ∀ g ∈ S, ∀ h, h ∉ S → q g < q h) {r : ℕ} (h : State q e w S r) :
    State q e w S (r + 1) := by
  classical
  obtain ⟨A, hA, h⟩ := h
  refine ⟨A ∪ hits (iter q r), fun g => ?_, ?_⟩
  · show lift (iter q r) g = _
    unfold lift hits
    by_cases h1 : iter q r g = lo (iter q r)
    · simp [h1]
    · simp only [if_neg h1, Finset.mem_union, Finset.mem_filter, Finset.mem_univ, true_and, h1, or_false]
      exact hA g
  have hb : before q (r + 1) = before q r + count q r := Finset.sum_range_succ _ _
  rcases h with ⟨hAS, hbe, hr, hp, hm⟩ | ⟨hbe, hp, hm⟩
  · obtain ⟨g0, hg0S, hg0A⟩ := Finset.exists_of_ssubset hAS
    have hlo : lo (iter q r) ≤ q g0 := by
      have := Finset.inf_le (f := iter q r) (Finset.mem_univ g0)
      rwa [hA g0, if_neg hg0A] at this
    have hmem : ∀ g ∈ hits (iter q r), g ∉ A ∧ q g = lo (iter q r) := by
      intro g hg
      have hg := (Finset.mem_filter.mp hg).2
      rw [hA g] at hg
      by_cases hgA : g ∈ A
      · rw [if_pos hgA] at hg
        exact absurd (hg ▸ hlo) (not_le.mpr (hq g0))
      · rw [if_neg hgA] at hg; exact ⟨hgA, hg⟩
    have hdis : Disjoint A (hits (iter q r)) := Finset.disjoint_right.mpr fun g hg => (hmem g hg).1
    have hsub : A ∪ hits (iter q r) ⊆ S := by
      refine Finset.union_subset hAS.1 fun g hg => ?_
      by_contra hgS
      have h1 := hsep g0 hg0S g hgS
      rw [(hmem g hg).2] at h1
      exact absurd hlo (not_le.mpr h1)
    have hcard : (A ∪ hits (iter q r)).card = A.card + count q r := Finset.card_union_of_disjoint hdis
    have hle : A.card + count q r ≤ 16 := by rw [← hcard, ← hS]; exact Finset.card_le_card hsub
    have htake : take q r = count q r := by unfold take; rw [hbe]; omega
    have hc0 := count_ne_zero hG q r
    obtain ⟨g1, hg1⟩ := hits_nonempty hG (iter q r)
    have he1 := he g1
    rw [(hmem g1 hg1).2] at he1
    have hpart : part q e w r = ∑ g ∈ hits (iter q r), e (q g) * w g := by
      unfold part
      rw [htake, div_self_nat _ hc0, one_mul, mul_sum_of_nonneg _ _ _ he1.1 he1.2]
      exact Finset.sum_congr rfl fun g hg => by rw [(hmem g hg).2]
    have hmass : mass q e r = ∑ g ∈ hits (iter q r), e (q g) := by
      unfold mass
      rw [htake, Finset.sum_congr rfl fun g hg => by rw [(hmem g hg).2], Finset.sum_const]
      exact (EReal.nsmul_eq_mul _ _).symm
    have hp' : ∑ s ∈ Finset.range (r + 1), part q e w s = ∑ g ∈ A ∪ hits (iter q r), e (q g) * w g := by
      rw [Finset.sum_range_succ, hp, hpart, Finset.sum_union hdis]
    have hm' : ∑ s ∈ Finset.range (r + 1), mass q e s = ∑ g ∈ A ∪ hits (iter q r), e (q g) := by
      rw [Finset.sum_range_succ, hm, hmass, Finset.sum_union hdis]
    by_cases hall : A ∪ hits (iter q r) = S
    · right
      refine ⟨?_, by rw [hp', hall], by rw [hm', hall]⟩
      rw [hb, hbe, ← hcard, hall, hS]
    · left
      exact ⟨hsub.ssubset_of_ne hall, by rw [hb, hbe, hcard], by rw [hcard]; omega, hp', hm'⟩
  · right
    have htake : take q r = 0 := by unfold take; omega
    refine ⟨by omega, ?_, ?_⟩
    · rw [Finset.sum_range_succ, hp]
      unfold part
      rw [htake, Nat.cast_zero, zero_div_nat _ (count_ne_zero hG q r), zero_mul, zero_mul, add_zero]
    · rw [Finset.sum_range_succ, hm]
      unfold mass
      rw [htake, Nat.cast_zero, zero_mul, add_zero]

/-- The state holds after any number of rounds. -/
theorem state_all (hG : 0 < G) (hq : ∀ g, q g < ⊤) (he : ∀ g, 0 ≤ e (q g) ∧ e (q g) ≠ ⊤) {S : Finset (Fin G)}
    (hS : S.card = 16) (hsep : ∀ g ∈ S, ∀ h, h ∉ S → q g < q h) (r : ℕ) : State q e w S r := by
  induction r with
  | zero =>
    refine ⟨∅, fun g => by simp [iter], Or.inl ⟨?_, by simp [before], by simp, by simp, by simp⟩⟩
    exact Finset.empty_ssubset.mpr (Finset.card_ne_zero.mp (by omega))
  | succ r ih => exact state_succ w hG hq he hS hsep ih

/-- Sixteen rounds sum over the top set: their weighted parts of `w`, and the values alone. -/
theorem sum_rounds (hG : 0 < G) (hq : ∀ g, q g < ⊤) (he : ∀ g, 0 ≤ e (q g) ∧ e (q g) ≠ ⊤) {S : Finset (Fin G)}
    (hS : S.card = 16) (hsep : ∀ g ∈ S, ∀ h, h ∉ S → q g < q h) :
    ∑ r ∈ Finset.range 16, part q e w r = ∑ g ∈ S, e (q g) * w g
      ∧ ∑ r ∈ Finset.range 16, mass q e r = ∑ g ∈ S, e (q g) := by
  obtain ⟨A, _, ⟨hAS, _, hr, _, _⟩ | ⟨_, hp, hm⟩⟩ := state_all w hG hq he hS hsep 16
  · have := Finset.card_lt_card hAS
    omega
  · exact ⟨hp, hm⟩

end Cert.Select

end
-- ==== Proof.Quad.lean ====
/- The squared distance by elimination and by the closed formula.

   The reference solves the two by two system of a Gaussian's covariance by elimination with row
   pivoting; the kernel divides by the determinant.  At real numbers and a determinant that is not zero
   both are the same real number.  The Gaussian's value then falls strictly as the distance grows. -/
module

public import Idealize.ShloMosaic.PureOps.Ideal
public import Idealize.ShloMosaic.PureOps.Ideal.Laws
public import Mathlib.Tactic.FieldSimp
public import Mathlib.Tactic.Ring
public import Mathlib.Tactic.Linarith

@[expose] public section

noncomputable section

namespace Cert.Quad

open Idealize.ShloMosaic

/-- The second unknown, from the pivot row `p0 p1 | r0` and the other row `o0 o1 | r1`. -/
def second (p0 p1 r0 o0 o1 r1 : EReal) : EReal :=
  Ideal.div (r1 - Ideal.div o0 p0 * r0) (o1 - Ideal.div o0 p0 * p1)

/-- The first unknown, by substitution. -/
def first (p0 p1 r0 o0 o1 r1 : EReal) : EReal := Ideal.div (r0 - p1 * second p0 p1 r0 o0 o1 r1) p0

/-- Whether the rows are exchanged: the second row's leading entry is the larger in absolute value. -/
def swap (a c : EReal) : BitVec 1 := Ideal.cmp .ogt (max c (-c)) (max a (-a))

/-- The squared distance by elimination: `d` dotted with the solution of `(a b; c e) s = d`. -/
def elim (d0 d1 a b c e : EReal) : EReal :=
  let s := swap a c
  d0 * first (Scalar.select s c a) (Scalar.select s e b) (Scalar.select s d1 d0)
        (Scalar.select s a c) (Scalar.select s b e) (Scalar.select s d0 d1)
    + d1 * second (Scalar.select s c a) (Scalar.select s e b) (Scalar.select s d1 d0)
        (Scalar.select s a c) (Scalar.select s b e) (Scalar.select s d0 d1)

/-- The squared distance by the closed formula. -/
def cramer (d0 d1 a b c e : EReal) : EReal :=
  (e * d0 * d0 - (b + c) * d0 * d1 + a * d1 * d1) * Ideal.div 1 (a * e - b * c)

/-- The same over the real numbers. -/
def real (d0 d1 a b c e : ℝ) : ℝ := (e * d0 * d0 - (b + c) * d0 * d1 + a * d1 * d1) / (a * e - b * c)

/-- A quotient of real numbers. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The second component that elimination finds is the real quotient, where the pivot and the determinant are nonzero. -/
theorem second_coe (p0 p1 r0 o0 o1 r1 : ℝ) (hp : p0 ≠ 0) (hd : p0 * o1 - p1 * o0 ≠ 0) :
    second p0 p1 r0 o0 o1 r1 = (((p0 * r1 - o0 * r0) / (p0 * o1 - p1 * o0) : ℝ) : EReal) := by
  have h : o1 - o0 / p0 * p1 ≠ 0 := by
    intro h
    apply hd
    field_simp at h
    linarith
  unfold second
  rw [div_coe _ _ hp, ← EReal.coe_mul, ← EReal.coe_mul, ← EReal.coe_sub, ← EReal.coe_sub, div_coe _ _ h]
  congr 1
  rw [div_eq_div_iff h hd]
  field_simp

/-- The first component that elimination finds is the real quotient, where the pivot and the determinant are nonzero. -/
theorem first_coe (p0 p1 r0 o0 o1 r1 : ℝ) (hp : p0 ≠ 0) (hd : p0 * o1 - p1 * o0 ≠ 0) :
    first p0 p1 r0 o0 o1 r1 = (((o1 * r0 - p1 * r1) / (p0 * o1 - p1 * o0) : ℝ) : EReal) := by
  unfold first
  rw [second_coe _ _ _ _ _ _ hp hd, ← EReal.coe_mul, ← EReal.coe_sub, div_coe _ _ hp]
  congr 1
  field_simp
  ring

/-- The absolute value of a real number. -/
theorem abs_coe (x : ℝ) : max (x : EReal) (-(x : EReal)) = ((|x| : ℝ) : EReal) := by
  rw [← EReal.coe_neg, ← EReal.coe_strictMono.monotone.map_max]; rfl

/-- Elimination gives the closed formula's real number. -/
theorem elim_coe (d0 d1 a b c e : ℝ) (hd : a * e - b * c ≠ 0) :
    elim d0 d1 a b c e = ((real d0 d1 a b c e : ℝ) : EReal) := by
  unfold elim real
  have hs : swap (a : EReal) (c : EReal) = BitVec.ofBool (decide (|a| < |c|)) := by
    unfold swap
    rw [abs_coe, abs_coe]
    show BitVec.ofBool (decide (((|a| : ℝ) : EReal) < ((|c| : ℝ) : EReal))) = _
    simp only [EReal.coe_lt_coe_iff]
  simp only [hs]
  by_cases h : |a| < |c|
  · have hc : c ≠ 0 := fun h0 => absurd h (by rw [h0, abs_zero]; exact not_lt.mpr (abs_nonneg a))
    have hd' : c * b - e * a ≠ 0 := fun h0 => hd (by linarith)
    rw [decide_eq_true h]
    show (d0 : EReal) * first c e d1 a b d0 + d1 * second c e d1 a b d0 = _
    rw [first_coe _ _ _ _ _ _ hc hd', second_coe _ _ _ _ _ _ hc hd', ← EReal.coe_mul, ← EReal.coe_mul, ← EReal.coe_add]
    congr 1
    rw [show c * b - e * a = -(a * e - b * c) by ring]
    field_simp
    ring
  · have ha : a ≠ 0 := fun h0 => by
      rw [h0, abs_zero, not_lt] at h
      have hc : c = 0 := abs_eq_zero.mp (le_antisymm h (abs_nonneg c))
      exact hd (by rw [h0, hc]; ring)
    have hd' : a * e - b * c ≠ 0 := hd
    rw [decide_eq_false h]
    show (d0 : EReal) * first a b d0 c e d1 + d1 * second a b d0 c e d1 = _
    rw [first_coe _ _ _ _ _ _ ha hd', second_coe _ _ _ _ _ _ ha hd', ← EReal.coe_mul, ← EReal.coe_mul, ← EReal.coe_add]
    congr 1
    field_simp
    ring

/-- The closed formula over the extended reals is that real number. -/
theorem cramer_coe (d0 d1 a b c e : ℝ) (hd : a * e - b * c ≠ 0) :
    cramer d0 d1 a b c e = ((real d0 d1 a b c e : ℝ) : EReal) := by
  unfold cramer real
  rw [← EReal.coe_one]
  simp only [← EReal.coe_mul, ← EReal.coe_add, ← EReal.coe_sub]
  rw [div_coe _ _ hd, ← EReal.coe_mul]
  congr 1
  ring

/-- The pattern of minus one half. -/
theorem ofBits_neg_half : Ideal.ofBits .f32 0xBF000000#32 = ((-(1 / 2) : ℝ) : EReal) := by
  simp [Ideal.ofBits, Ideal.ieee, -EReal.coe_mul, -EReal.coe_neg]; norm_num

/-- The Gaussian's value at a squared distance. -/
def gauss (x : EReal) : EReal := Ideal.exp (Ideal.ofBits .f32 0xBF000000#32 * x)

/-- The weight of a real distance is the real exponential of minus half of it. -/
theorem gauss_coe (x : ℝ) : gauss x = ((Real.exp (-(1 / 2) * x) : ℝ) : EReal) := by
  unfold gauss
  rw [ofBits_neg_half, ← EReal.coe_mul]
  rfl

/-- A Gaussian's value is not negative and not infinite. -/
theorem gauss_range (x : ℝ) : 0 ≤ gauss x ∧ gauss x ≠ ⊤ := by
  rw [gauss_coe]
  exact ⟨EReal.coe_nonneg.mpr (Real.exp_pos _).le, EReal.coe_ne_top _⟩

/-- The larger value is at the smaller distance. -/
theorem gauss_lt (x y : ℝ) : gauss y < gauss x ↔ (x : EReal) < y := by
  rw [gauss_coe, gauss_coe, EReal.coe_lt_coe_iff, EReal.coe_lt_coe_iff, Real.exp_lt_exp]
  constructor <;> intro h <;> linarith

end Cert.Quad

end
-- ==== Proof.KernelRow.lean ====
/- The kernel's block function read at one row.

   Over the extended reals, the entry of `KernelTerm.blockOf` at row `p` and colour `c` is a quotient of
   two sums over the sixteen rounds of `Select`, taken of that row's distances. -/
module

public import proofs.«01_k».proof.Proof.KernelTerm
public import proofs.«01_k».proof.Proof.Select
public import proofs.«01_k».proof.Proof.Quad
public import Idealize.ShloMosaic.PureOps.Ideal.Laws
public import Idealize.ShloMosaic.Lib.MatmulPlain
public import Idealize.ShloMosaic.Lib.ValueIdx
public import Idealize.ShloMosaic.Lib.IdealHost

@[expose] public section

noncomputable section

namespace Cert.KernelRow

open Idealize.ShloMosaic Idealize.ShloMosaic.ValueIdx Cert.KernelIdeal Cert.KernelIdeal.Gen Cert.KernelTerm Cert.Select Cert.Quad
open scoped BigOperators

/-- Row `p` of the distances. -/
def row (q : FVec Ideal S256x2048 .f32) (p : Fin 256) : Fin 2048 → EReal := fun g => q (ix2 p g)

/-- The pattern of plus infinity. -/
theorem ofBits_top : Ideal.ofBits .f32 0x7F800000#32 = ⊤ := by simp [Ideal.ofBits, Ideal.ieee]

/-- The pattern of sixteen. -/
theorem ofBits_sixteen : Ideal.ofBits .f32 0x41800000#32 = ((16 : ℕ) : EReal) := by
  rw [show ((16 : ℕ) : EReal) = ((16 : ℝ) : EReal) by norm_cast]
  simp [Ideal.ofBits, Ideal.ieee, -EReal.coe_mul]; norm_num

/-- A row's least entry. -/
theorem least_apply (q : FVec Ideal S256x2048 .f32) (p : Fin 256) : least q (ix2 p 0) = lo (row q p) := by
  unfold least
  rw [shapeCast_apply _ _ (ix2 p 0) (ix1 p) (by rw [Shape.rowMajor_val_one, Shape.rowMajor_val_two]; simp)]
  refine (multiReduction_minimumf_eq_fold q _ _ _ _ (ix1 p)).trans ?_
  rw [Shape.Reduces.fold_filter_drop_single, show FloatOps.ofBits (F := Ideal) .f32 0x7F800000#32 = (⊤ : EReal) from ofBits_top]
  refine (Finset.fold_congr (g := row q p) fun g _ => ?_).trans rfl
  exact congrArg q (funext fun a => by match a with | ⟨0, _⟩ => rfl | ⟨1, _⟩ => rfl)

/-- A broadcast column read at a row. -/
theorem column_apply {n : ℕ} (x : FVec Ideal S256x1 .f32) (h : S256x1.Broadcasts ⟨2, ![256, n]⟩) (p : Fin 256) (g : Fin n) :
    broadcastTo ⟨2, ![256, n]⟩ x h (ix2 p g) = x (ix2 p 0) :=
  broadcastTo_apply _ _ _ _ fun a => by match a with | ⟨0, _⟩ => rfl | ⟨1, _⟩ => rfl

/-- A mark says the entry is its row's least. -/
theorem marks_apply (q : FVec Ideal S256x2048 .f32) (p : Fin 256) (g : Fin 2048) :
    marks q (ix2 p g) = BitVec.ofBool (decide (row q p g = lo (row q p))) := by
  unfold marks
  rw [cmpf_apply, column_apply, least_apply]
  rfl

/-- One round on a row. -/
theorem row_raise (q : FVec Ideal S256x2048 .f32) (p : Fin 256) : row (raise q) p = lift (row q p) := by
  funext g
  show select (marks q) _ q (ix2 p g) = _
  rw [select_apply, marks_apply, broadcast_apply]
  unfold lift
  by_cases h : row q p g = lo (row q p)
  · rw [if_pos h, decide_eq_true h]; exact ofBits_top
  · rw [if_neg h, decide_eq_false h]; rfl

/-- All rounds on a row. -/
theorem row_rounds (q : FVec Ideal S256x2048 .f32) (p : Fin 256) (n : ℕ) : row (rounds q n) p = iter (row q p) n := by
  induction n with
  | zero => rfl
  | succ n ih => exact (row_raise _ _).trans (congrArg lift ih)

/-- A bit widened and read as a number. -/
theorem bit_value (P : Prop) [Decidable P] :
    FloatOps.sitofp (F := Ideal) .f32 ((BitVec.ofBool (decide P)).setWidth 32) = if P then (1 : EReal) else 0 := by
  by_cases h : P
  · rw [if_pos h, decide_eq_true h]; show (((1 : ℤ) : ℝ) : EReal) = 1; norm_num
  · rw [if_neg h, decide_eq_false h]; show (((0 : ℤ) : ℝ) : EReal) = 0; norm_num

/-- The gathered columns: the marked Gaussians' sum. -/
theorem gathered_apply (w : FVec Ideal S2048x4 .f32) (q : FVec Ideal S256x2048 .f32) (p : Fin 256) (c : Fin 4) :
    gathered w q (ix2 p c) = ∑ g ∈ hits (row q p), w (ix2 g c) := by
  refine (Ideal.matmul_plain_apply (M := 256) (K := 2048) (N := 4) none _ w _ p c).trans ?_
  rw [constant_apply, Ideal.ofBits_zero_f32, zero_add]
  unfold hits
  rw [Finset.sum_filter]
  refine Finset.sum_congr rfl fun g _ => ?_
  rw [sitofp_apply, extui_apply, marks_apply, bit_value]
  split_ifs
  · rw [one_mul]
  · rw [zero_mul]

/-- Sixteen columns side by side, read at a row. -/
theorem beside (f : Fin 16 → FVec Ideal S256x1 .f32) (p : Fin 256) (n : Fin 16) :
    concatenate S256x16 1 (List.ofFn fun n : Fin 16 => ⟨S256x1, f n⟩)
      concatenates_S256x1_S256x1_S256x1_S256x1_S256x1_S256x1_S256x1_S256x1_S256x1_S256x1_S256x1_S256x1_S256x1_S256x1_S256x1_S256x1_S256x16_d1
      (ix2 p n) = f n (ix2 p 0) := by
  refine concatenate_ofFn_unit_apply (t := S256x16) (s₁ := S256x1) (1 : Fin 2) f _ rfl rfl (ix2 p n) n rfl (ix2 p 0) ?_
  intro b hb
  match b with
  | ⟨0, _⟩ => rfl
  | ⟨1, _⟩ => exact absurd rfl hb

/-- The least entries, one column per round. -/
theorem leasts_apply (q : FVec Ideal S256x2048 .f32) (p : Fin 256) (n : Fin 16) :
    leasts q (ix2 p n) = lo (iter (row q p) n) := by
  refine (beside (fun n : Fin 16 => least (rounds q n)) p n).trans ?_
  rw [least_apply, row_rounds]

/-- The gathered columns of all rounds. -/
theorem columns_apply (w : FVec Ideal S2048x4 .f32) (q : FVec Ideal S256x2048 .f32) (p : Fin 256) (n : Fin 16) (k : Fin 4)
    (j : Fin 64) (hj : j.val = k.val + 4 * n.val) :
    columns w q (ix2 p j) = ∑ g ∈ hits (iter (row q p) n), w (ix2 g k) := by
  refine (concatenate_ofFn_apply (t := S256x64) (s₁ := S256x4) (1 : Fin 2) (fun n : Fin 16 => gathered w (rounds q n)) _ rfl 4 rfl (ix2 p j) n ?_ (ix2 p k) ?_ ?_).trans ?_
  · show j.val / 4 = n.val; omega
  · show k.val = j.val % 4; omega
  · intro b hb
    match b with
    | ⟨0, _⟩ => rfl
    | ⟨1, _⟩ => exact absurd rfl hb
  · rw [gathered_apply, row_rounds]

/-- The counts, when the last of the four columns is all ones. -/
theorem counts_apply (w : FVec Ideal S2048x4 .f32) (hw : ∀ g, w (ix2 g 3) = 1) (q : FVec Ideal S256x2048 .f32) (p : Fin 256)
    (n : Fin 16) : counts w q (ix2 p n) = (Select.count (row q p) n : EReal) := by
  have key : ∀ n : Fin 16, extractStridedSlice S256x1 ![0, 3] (gathered w (rounds q n)) slices_S256x4_o0_3_S256x1 (ix2 p 0)
      = (Select.count (row q p) n : EReal) := fun n => by
    rw [extractStridedSlice_apply _ _ _ _ (ix2 p (3 : Fin 4)) (fun a => by match a with | ⟨0, _⟩ => exact (Nat.zero_add _).symm | ⟨1, _⟩ => rfl),
      gathered_apply, row_rounds, Finset.sum_congr rfl fun g _ => hw g]
    simp [Select.count]
  have e := beside (fun n : Fin 16 => extractStridedSlice S256x1 ![0, 3] (gathered w (rounds q n)) slices_S256x4_o0_3_S256x1) p n
  rw [key] at e
  unfold counts
  exact e

/-- A row moved right by `k` columns, zeros coming in. -/
theorem moved {k m : ℕ} (hkm : k + m = 16) (z : FVec Ideal ⟨2, ![256, k]⟩ .f32) (hz : ∀ i, z i = 0) (c : FVec Ideal S256x16 .f32)
    (hs : S256x16.Slices ![0, 0] ⟨2, ![256, m]⟩) (hc : Shape.Concatenates [⟨2, ![256, k]⟩, ⟨2, ![256, m]⟩] S256x16 1)
    (p : Fin 256) (f : ℕ → ℕ) (hf : ∀ n : Fin 16, c (ix2 p n) = (f n : EReal)) (n : Fin 16) :
    concatenate S256x16 1 [⟨⟨2, ![256, k]⟩, z⟩, ⟨⟨2, ![256, m]⟩, extractStridedSlice ⟨2, ![256, m]⟩ ![0, 0] c hs⟩] hc (ix2 p n)
      = ((if k ≤ n.val then f (n.val - k) else 0 : ℕ) : EReal) := by
  by_cases h : k ≤ n.val
  · rw [if_pos h]
    refine (concatenate_pair_apply_right (t := S256x16) (s₁ := ⟨2, ![256, k]⟩) (s₂ := ⟨2, ![256, m]⟩) (1 : Fin 2) z _ hc (ix2 p n) rfl rfl (ix2 p (⟨n.val - k, by omega⟩ : Fin m)) ?_ ?_).trans ?_
    · intro b hb
      match b with
      | ⟨0, _⟩ => rfl
      | ⟨1, _⟩ => exact absurd rfl hb
    · show n.val - k + k = n.val; omega
    · rw [extractStridedSlice_apply _ _ _ _ (ix2 p (⟨n.val - k, by omega⟩ : Fin 16))
        (fun a => by match a with | ⟨0, _⟩ => exact (Nat.zero_add _).symm | ⟨1, _⟩ => exact (Nat.zero_add _).symm), hf]
  · rw [if_neg h]
    refine (concatenate_pair_apply_left (t := S256x16) (s₁ := ⟨2, ![256, k]⟩) (s₂ := ⟨2, ![256, m]⟩) (1 : Fin 2) z _ hc (ix2 p n) rfl (ix2 p (⟨n.val, by omega⟩ : Fin k)) ?_).trans ?_
    · intro b
      match b with
      | ⟨0, _⟩ => rfl
      | ⟨1, _⟩ => rfl
    · rw [hz]; simp

/-- A broadcast zero is zero. -/
theorem zeros_apply {s : Shape} (i : s.Idx) : broadcast s (Scalar.ofBits (F := Ideal) .f32 0x00000000#32) i = (0 : EReal) :=
  Ideal.ofBits_zero_f32

/-- One step of the running sum of natural numbers. -/
def step (k : ℕ) (f : ℕ → ℕ) (n : ℕ) : ℕ := f n + if k ≤ n then f (n - k) else 0

/-- Where a row of counts is the numbers `f`, the kernel's sum of it with itself moved by 1 is one step of the running sum. -/
theorem shift1_apply (c : FVec Ideal S256x16 .f32) (p : Fin 256) (f : ℕ → ℕ) (hf : ∀ n : Fin 16, c (ix2 p n) = (f n : EReal)) (n : Fin 16) :
    shift1 c (ix2 p n) = (step 1 f n : EReal) := by
  unfold shift1 step
  rw [addf_apply, moved (k := 1) (m := 15) rfl _ zeros_apply c _ _ p f hf n, hf, ← Nat.cast_add]

/-- Where a row of counts is the numbers `f`, the kernel's sum of it with itself moved by 2 is one step of the running sum. -/
theorem shift2_apply (c : FVec Ideal S256x16 .f32) (p : Fin 256) (f : ℕ → ℕ) (hf : ∀ n : Fin 16, c (ix2 p n) = (f n : EReal)) (n : Fin 16) :
    shift2 c (ix2 p n) = (step 2 f n : EReal) := by
  unfold shift2 step
  rw [addf_apply, moved (k := 2) (m := 14) rfl _ zeros_apply c _ _ p f hf n, hf, ← Nat.cast_add]

/-- Where a row of counts is the numbers `f`, the kernel's sum of it with itself moved by 4 is one step of the running sum. -/
theorem shift4_apply (c : FVec Ideal S256x16 .f32) (p : Fin 256) (f : ℕ → ℕ) (hf : ∀ n : Fin 16, c (ix2 p n) = (f n : EReal)) (n : Fin 16) :
    shift4 c (ix2 p n) = (step 4 f n : EReal) := by
  unfold shift4 step
  rw [addf_apply, moved (k := 4) (m := 12) rfl _ zeros_apply c _ _ p f hf n, hf, ← Nat.cast_add]

/-- Where a row of counts is the numbers `f`, the kernel's sum of it with itself moved by 8 is one step of the running sum. -/
theorem shift8_apply (c : FVec Ideal S256x16 .f32) (p : Fin 256) (f : ℕ → ℕ) (hf : ∀ n : Fin 16, c (ix2 p n) = (f n : EReal)) (n : Fin 16) :
    shift8 c (ix2 p n) = (step 8 f n : EReal) := by
  unfold shift8 step
  rw [addf_apply, moved (k := 8) (m := 8) rfl _ zeros_apply c _ _ p f hf n, hf, ← Nat.cast_add]

/-- The four steps give the running sum over sixteen columns. -/
theorem steps_eq (f : ℕ → ℕ) (n : Fin 16) :
    step 8 (step 4 (step 2 (step 1 f))) n = (∑ s ∈ Finset.range n, f s) + f n := by
  fin_cases n <;> simp [step, Finset.sum_range_succ] <;> ring

/-- A natural number less another, cut at zero, is the natural numbers' difference. -/
theorem cut_sub (a b : ℕ) : max 0 ((a : EReal) - (b : EReal)) = ((a - b : ℕ) : EReal) := by
  have e : (a : EReal) - (b : EReal) = (((a : ℝ) - (b : ℝ) : ℝ) : EReal) := by
    rw [EReal.coe_sub, EReal.coe_natCast, EReal.coe_natCast]
  rw [e, ← EReal.coe_natCast, ← EReal.coe_zero, ← EReal.coe_strictMono.monotone.map_max]
  congr 1
  rcases le_total b a with h | h
  · rw [Nat.cast_sub h, max_eq_right (by rw [sub_nonneg]; exact_mod_cast h)]
  · rw [Nat.sub_eq_zero_of_le h, Nat.cast_zero, max_eq_left (by rw [sub_nonpos]; exact_mod_cast h)]

/-- A sum of two natural numbers less the second. -/
theorem add_sub_nat (a b : ℕ) : ((a + b : ℕ) : EReal) - (b : EReal) = (a : EReal) := by
  rw [← EReal.coe_natCast, ← EReal.coe_natCast, ← EReal.coe_natCast, ← EReal.coe_sub]
  congr 1
  push_cast; ring

/-- How many of a round's Gaussians are still wanted. -/
theorem allowed_apply (w : FVec Ideal S2048x4 .f32) (hw : ∀ g, w (ix2 g 3) = 1) (q : FVec Ideal S256x2048 .f32) (p : Fin 256)
    (n : Fin 16) : allowed (counts w q) (ix2 p n) = (take (row q p) n : EReal) := by
  have hf := counts_apply w hw q p
  have h8 := shift8_apply _ p _ (shift4_apply _ p _ (shift2_apply _ p _ (shift1_apply _ p _ hf))) n
  unfold allowed
  rw [minimumf_apply, maximumf_apply, subf_apply, subf_apply, zeros_apply, broadcast_apply, h8, hf, steps_eq, add_sub_nat,
    show Scalar.ofBits (F := Ideal) .f32 0x41800000#32 = ((16 : ℕ) : EReal) from ofBits_sixteen, cut_sub]
  unfold take before
  exact (Nat.mono_cast (α := EReal)).map_min.symm

/-- Each round's Gaussian value. -/
theorem values_apply (q : FVec Ideal S256x2048 .f32) (p : Fin 256) (n : Fin 16) :
    values (leasts q) (ix2 p n) = gauss (lo (iter (row q p) n)) := by
  rw [← leasts_apply]; rfl

/-- The denominator of a row. -/
theorem denoms_apply (w : FVec Ideal S2048x4 .f32) (hw : ∀ g, w (ix2 g 3) = 1) (q : FVec Ideal S256x2048 .f32) (p : Fin 256) :
    denoms (counts w q) (leasts q) (ix2 p 0)
      = (∑ r ∈ Finset.range 16, mass (row q p) gauss r) + Ideal.ofBits .f32 0x358637BD#32 := by
  unfold denoms
  rw [addf_apply, broadcast_apply,
    shapeCast_apply _ _ (ix2 p 0) (ix1 p) (by rw [Shape.rowMajor_val_one, Shape.rowMajor_val_two]; simp),
    Finset.sum_range]
  refine congrArg₂ (· + ·) ((Ideal.multiReduction_add_single _ _ _ _ _ _).trans (Finset.sum_congr rfl fun n _ => ?_)) rfl
  have hi : reduces_S256x16_S256.lift (ix1 p) n = (ix2 p (show Fin 16 from n) : S256x16.Idx) :=
    funext fun a => by match a with | ⟨0, _⟩ => rfl | ⟨1, _⟩ => rfl
  rw [hi]
  refine (mulf_apply (allowed (counts w q)) (values (leasts q)) _).trans ?_
  rw [allowed_apply w hw, values_apply]
  rfl

/-- The weight of a round. -/
theorem weights_apply (w : FVec Ideal S2048x4 .f32) (hw : ∀ g, w (ix2 g 3) = 1) (q : FVec Ideal S256x2048 .f32) (p : Fin 256)
    (n : Fin 16) : weights (counts w q) (leasts q) (ix2 p n)
      = Ideal.div (take (row q p) n : EReal) (Select.count (row q p) n : EReal) * gauss (lo (iter (row q p) n)) := by
  unfold weights
  rw [mulf_apply, divf_apply, allowed_apply w hw, counts_apply w hw, values_apply]

/-- The block's result at row `p`, colour `c`: the rounds' parts over the rounds' masses. -/
theorem blockOf_apply (q : FVec Ideal S256x2048 .f32) (w : FVec Ideal S2048x4 .f32) (hw : ∀ g, w (ix2 g 3) = 1)
    (e : FVec Ideal S16x64 .f32) (he : ∀ (r : Fin 16) (j : Fin 64), e (ix2 r j) = if j.val / 4 = r.val then 1 else 0)
    (ch : FVec Ideal S64x3 .f32) (hch : ∀ (j : Fin 64) (c : Fin 3), ch (ix2 j c) = if j.val % 4 = c.val then 1 else 0)
    (p : Fin 256) (c : Fin 3) :
    blockOf q w e ch (ix2 p c)
      = Ideal.div (∑ r ∈ Finset.range 16, part (row q p) gauss (fun g => w (ix2 g (c.castLE (by decide)))) r)
          ((∑ r ∈ Finset.range 16, mass (row q p) gauss r) + Ideal.ofBits .f32 0x358637BD#32) := by
  unfold blockOf
  rw [divf_apply, column_apply, denoms_apply w hw]
  refine congrArg (Ideal.div · _) ?_
  refine (Ideal.matmul_plain_apply (M := 256) (K := 64) (N := 3) none _ ch _ p c).trans ?_
  rw [constant_apply, Ideal.ofBits_zero_f32, zero_add]
  rw [Finset.sum_range, ← (finProdFinEquiv (m := 16) (n := 4)).sum_comp, Fintype.sum_prod_type]
  refine Finset.sum_congr rfl fun r _ => ?_
  rw [Finset.sum_eq_single (c.castLE (by decide) : Fin 4)]
  · rw [hch, if_pos (by simp [finProdFinEquiv]; omega), mul_one, mulf_apply,
      columns_apply w q p r (c.castLE (by decide)) _ (by simp [finProdFinEquiv])]
    unfold part
    rw [← weights_apply w hw]
    refine congrArg (· * _) ?_
    refine (Ideal.matmul_plain_apply (M := 256) (K := 16) (N := 64) none _ e _ p _).trans ?_
    rw [constant_apply, Ideal.ofBits_zero_f32, zero_add]
    rw [Finset.sum_eq_single r]
    · rw [he, if_pos (by simp [finProdFinEquiv]; omega), mul_one]
    · intro s _ hs
      have : ¬ (finProdFinEquiv (r, (c.castLE (by decide) : Fin 4))).val / 4 = s.val := by
        intro h
        apply hs
        apply Fin.ext
        simp [finProdFinEquiv] at h
        omega
      rw [he, if_neg this, mul_zero]
    · intro h; exact absurd (Finset.mem_univ _) h
  · intro k _ hk
    have : ¬ (finProdFinEquiv (r, k)).val % 4 = c.val := by
      intro h
      apply hk
      apply Fin.ext
      simp [finProdFinEquiv] at h ⊢
      omega
    rw [hch, if_neg this, mul_zero]
  · intro h; exact absurd (Finset.mem_univ _) h

end Cert.KernelRow

end
-- ==== Proof.Prefix.lean ====
/- The arrays the kernel's region finds: what the operations before it put there, element by element. -/
module

public import proofs.«01_k».proof.Proof.Gen.KernelIdeal.Frame
public import Idealize.ShloMosaic.Lib.StableHlo.ReadAt
public import Idealize.ShloMosaic.Lib.Tactic.WordOmega
public import Idealize.ShloMosaic.Lib.Pointwise
public import Idealize.ShloMosaic.Lib.ValueIdx
public import Idealize.ShloMosaic.Lib.IdealHost

@[expose] public section

noncomputable section

namespace Cert.Prefix

open Idealize.ShloMosaic Idealize.ShloMosaic.TcCoe Idealize.SL.Sem Cert.KernelIdeal Cert.KernelIdeal.Gen

variable (m : (ℓ : Loc nD τ sig) → Buf (Elt Ideal) ℓ) (c : Dev nD)

/-- The transposed means. -/
theorem means (d : Fin 2) (g : Fin 2048) :
    V m c main_call0_v1 (ix2 d g) = m ((c : Thread nD τ).loc main_arg1) (ix3 (0 : Fin 1) g d) := by
  unfold V
  after_reads_at

/-- The transposed covariances, four entries to a column. -/
theorem covs (i j : Fin 2) (k : Fin 4) (hk : k.val = 2 * i.val + j.val) (g : Fin 2048) :
    V m c main_call0_v4 (ix2 k g) = m ((c : Thread nD τ).loc main_arg2) (ix4 (0 : Fin 1) g i j) := by
  unfold V
  after_reads_at
  have h1 : (⟨k.val / 2, by omega⟩ : Fin 2) = i := Fin.ext (by show k.val / 2 = i.val; omega)
  have h2 : (⟨k.val % 2, by omega⟩ : Fin 2) = j := Fin.ext (by show k.val % 2 = j.val; omega)
  rw [h1, h2]

/-- The colours, the first three of four columns. -/
theorem cols (g : Fin 2048) (k : Fin 3) :
    V m c main_call0_v7 (ix2 g (k.castLE (by decide) : Fin 4)) = m ((c : Thread nD τ).loc main_arg3) (ix3 (0 : Fin 1) g k) := by
  unfold V
  after_reads_at
  rw [dif_pos (show ((k.castLE (by decide) : Fin 4) : ℕ) < 3 from k.isLt)]
  after_reads_at
  rfl

/-- The ones, the last of four columns. -/
theorem ones (g : Fin 2048) : V m c main_call0_v7 (ix2 g (3 : Fin 4)) = (1 : EReal) := by
  unfold V
  after_reads_at
  after_reads_at

/-- A bit read as a number. -/
theorem bit_value (x : BitVec 1) (P : Prop) [Decidable P] (h : x = BitVec.ofBool (decide P)) :
    FloatOps.uitofp (F := Ideal) .f32 x = if P then (1 : EReal) else 0 := by
  rw [h]
  by_cases hP : P
  · rw [if_pos hP, decide_eq_true hP]; show (((1 : ℕ) : ℝ) : EReal) = 1; norm_num
  · rw [if_neg hP, decide_eq_false hP]; show (((0 : ℕ) : ℝ) : EReal) = 0; norm_num

/-- The spreading matrix: column `j` takes round `j / 4`. -/
theorem expand (r : Fin 16) (j : Fin 64) : V m c main_call0_v16 (ix2 r j) = if j.val / 4 = r.val then (1 : EReal) else 0 := by
  unfold V
  after_reads_at
  refine bit_value _ _ ?_
  revert r j
  decide +kernel

/-- The gathering matrix: column `j` goes to colour `j % 4`. -/
theorem chan (j : Fin 64) (k : Fin 3) : V m c main_call0_v25 (ix2 j k) = if j.val % 4 = k.val then (1 : EReal) else 0 := by
  unfold V
  after_reads_at
  refine bit_value _ _ ?_
  revert j k
  decide +kernel

end Cert.Prefix

end
-- ==== Proof.Entry.lean ====
/- The numbers both programs compute from: offsets, covariance entries and colours, at their places in the arguments. -/
module

public import proofs.«01_k».proof.Proof.Quad
public import Idealize.ShloMosaic.Lib.ValueIdx

@[expose] public section

noncomputable section

namespace Cert.Entry

open Idealize.ShloMosaic Idealize.ShloMosaic.ValueIdx Cert.Quad

variable (x : FVec Ideal ⟨2, ![8192, 2]⟩ .f32) (mu : FVec Ideal ⟨3, ![1, 2048, 2]⟩ .f32)
  (cov : FVec Ideal ⟨4, ![1, 2048, 2, 2]⟩ .f32) (col : FVec Ideal ⟨3, ![1, 2048, 3]⟩ .f32)

/-- Coordinate `d` of pixel `i` measured from the centre of Gaussian `g`. -/
def delta (i : Fin 8192) (g : Fin 2048) (d : Fin 2) : EReal := x (ix2 i d) - mu (ix3 0 g d)

/-- Entry `(a, b)` of the covariance of Gaussian `g`. -/
def entry (g : Fin 2048) (a b : Fin 2) : EReal := cov (ix4 0 g a b)

/-- Channel `k` of the colour of Gaussian `g`. -/
def colour (g : Fin 2048) (k : Fin 3) : EReal := col (ix3 0 g k)

/-- The squared distance by Cramer's rule, as the kernel takes it. -/
def near (i : Fin 8192) (g : Fin 2048) : EReal :=
  cramer (delta x mu i g 0) (delta x mu i g 1) (entry cov g 0 0) (entry cov g 0 1) (entry cov g 1 0) (entry cov g 1 1)

/-- The squared distance by elimination, as the reference takes it. -/
def far (i : Fin 8192) (g : Fin 2048) : EReal :=
  elim (delta x mu i g 0) (delta x mu i g 1) (entry cov g 0 0) (entry cov g 0 1) (entry cov g 1 0) (entry cov g 1 1)

end Cert.Entry

end
-- ==== Proof.Arrays.lean ====
/- The kernel's result array, element by element: row `i` is the sixteen rounds taken of row `i`'s distances. -/
module

public import proofs.«01_k».proof.Proof.Gen.KernelIdeal.Value
public import proofs.«01_k».proof.Proof.KernelRow
public import proofs.«01_k».proof.Proof.Prefix
public import proofs.«01_k».proof.Proof.Entry
public import Idealize.ShloMosaic.Lib.Pointwise.IndexBridge

@[expose] public section

noncomputable section

namespace Cert.Arrays

open Cert.KernelIdeal Cert.KernelIdeal.Gen Cert.KernelIdeal.Value Cert.KernelTerm Cert.Select Cert.Quad Cert.Entry Idealize.ShloMosaic.TcCoe
open Idealize.ShloMosaic hiding ix1 ix2 ix3 ix4
open Idealize.ShloMosaic.ValueIdx
open scoped BigOperators

/-- A distance of the block: Cramer's rule at the pixel and the Gaussian. -/
theorem block_dist (v0 : FVec Ideal S256x2 .f32) (v1 : FVec Ideal S2x2048 .f32) (v3 : FVec Ideal S4x2048 .f32) (p : Fin 256) (g : Fin 2048) :
    k0_pay3 (F := Ideal) v0 v1 v3 (ix2 p g)
      = cramer (v0 (ix2 p 0) - v1 (ix2 0 g)) (v0 (ix2 p 1) - v1 (ix2 1 g)) (v3 (ix2 0 g)) (v3 (ix2 1 g)) (v3 (ix2 2 g)) (v3 (ix2 3 g)) := by
  unfold k0_pay3 cramer
  rw [← Ideal.ofBits_one_f32]
  simp only [← ix2_eq_valueIdx]
  pointwise

variable (m : (ℓ : Loc nD τ sig) → Buf (Elt Ideal) ℓ) (c : Dev nD)

/-- The five windows that stay sit at block zero at every grid point. -/
theorem still : ∀ t : Fin cfg0.N, ∀ a : Fin 2, win0_1.index t a = 0 ∧ win0_2.index t a = 0 ∧ win0_3.index t a = 0
    ∧ win0_4.index t a = 0 ∧ win0_5.index t a = 0 :=
  (by decide +kernel : ∀ t : Fin grid0.N, _)

/-- The two windows that move sit at block `t` of the rows. -/
theorem moving : ∀ t : Fin cfg0.N, win0_0.index t (0 : Fin 2) = t.val ∧ win0_0.index t (1 : Fin 2) = 0
    ∧ win0_6.index t (0 : Fin 2) = t.val ∧ win0_6.index t (1 : Fin 2) = 0 :=
  (by decide +kernel : ∀ t : Fin grid0.N, _)

/-- Row `p` of block `t`. -/
def place (t : Fin cfg0.N) (p : Fin 256) : Fin 8192 :=
  ⟨t.val * 256 + p.val, by have := t.isLt; have : cfg0.N = 32 := N_0; omega⟩

/-- Every grid step sees input 1 whole: a place of the block is the same place of the array. -/
theorem emb1 (t : Fin cfg0.N) (j : S2x2048.Idx) : ((cfg0.win 1).blk t).view.emb j = j := by
  funext a; apply Fin.ext
  match a with
  | ⟨0, _⟩ => show win0_1.index t (0 : Fin 2) * 2 + 1 * (j 0).val = (j 0).val; rw [(still t 0).1]; omega
  | ⟨1, _⟩ => show win0_1.index t (1 : Fin 2) * 2048 + 1 * (j 1).val = (j 1).val; rw [(still t 1).1]; omega

/-- Every grid step sees input 2 whole: a place of the block is the same place of the array. -/
theorem emb2 (t : Fin cfg0.N) (j : S4x2048.Idx) : ((cfg0.win 2).blk t).view.emb j = j := by
  funext a; apply Fin.ext
  match a with
  | ⟨0, _⟩ => show win0_2.index t (0 : Fin 2) * 4 + 1 * (j 0).val = (j 0).val; rw [(still t 0).2.1]; omega
  | ⟨1, _⟩ => show win0_2.index t (1 : Fin 2) * 2048 + 1 * (j 1).val = (j 1).val; rw [(still t 1).2.1]; omega

/-- Every grid step sees input 3 whole: a place of the block is the same place of the array. -/
theorem emb3 (t : Fin cfg0.N) (j : S2048x4.Idx) : ((cfg0.win 3).blk t).view.emb j = j := by
  funext a; apply Fin.ext
  match a with
  | ⟨0, _⟩ => show win0_3.index t (0 : Fin 2) * 2048 + 1 * (j 0).val = (j 0).val; rw [(still t 0).2.2.1]; omega
  | ⟨1, _⟩ => show win0_3.index t (1 : Fin 2) * 4 + 1 * (j 1).val = (j 1).val; rw [(still t 1).2.2.1]; omega

/-- Every grid step sees input 4 whole: a place of the block is the same place of the array. -/
theorem emb4 (t : Fin cfg0.N) (j : S16x64.Idx) : ((cfg0.win 4).blk t).view.emb j = j := by
  funext a; apply Fin.ext
  match a with
  | ⟨0, _⟩ => show win0_4.index t (0 : Fin 2) * 16 + 1 * (j 0).val = (j 0).val; rw [(still t 0).2.2.2.1]; omega
  | ⟨1, _⟩ => show win0_4.index t (1 : Fin 2) * 64 + 1 * (j 1).val = (j 1).val; rw [(still t 1).2.2.2.1]; omega

/-- Every grid step sees input 5 whole: a place of the block is the same place of the array. -/
theorem emb5 (t : Fin cfg0.N) (j : S64x3.Idx) : ((cfg0.win 5).blk t).view.emb j = j := by
  funext a; apply Fin.ext
  match a with
  | ⟨0, _⟩ => show win0_5.index t (0 : Fin 2) * 64 + 1 * (j 0).val = (j 0).val; rw [(still t 0).2.2.2.2]; omega
  | ⟨1, _⟩ => show win0_5.index t (1 : Fin 2) * 3 + 1 * (j 1).val = (j 1).val; rw [(still t 1).2.2.2.2]; omega

/-- Row `p` of the block of points at step `t` is row `place t p` of the array of points. -/
theorem emb0 (t : Fin cfg0.N) (p : Fin 256) (d : Fin 2) : ((cfg0.win 0).blk t).view.emb (ix2 p d) = ix2 (place t p) d := by
  obtain ⟨e0, e1, -, -⟩ := moving t
  funext a; apply Fin.ext
  match a with
  | ⟨0, _⟩ => show win0_0.index t (0 : Fin 2) * 256 + 1 * p.val = t.val * 256 + p.val; rw [e0]; omega
  | ⟨1, _⟩ => show win0_0.index t (1 : Fin 2) * 2 + 1 * d.val = d.val; rw [e1]; omega

/-- Row `p` of the block of results at step `t` is row `place t p` of the array of results. -/
theorem emb6 (t : Fin cfg0.N) (p : Fin 256) (k : Fin 3) : ((cfg0.win 6).blk t).view.emb (ix2 p k) = ix2 (place t p) k := by
  obtain ⟨-, -, e0, e1⟩ := moving t
  funext a; apply Fin.ext
  match a with
  | ⟨0, _⟩ => show win0_6.index t (0 : Fin 2) * 256 + 1 * p.val = t.val * 256 + p.val; rw [e0]; omega
  | ⟨1, _⟩ => show win0_6.index t (1 : Fin 2) * 3 + 1 * k.val = k.val; rw [e1]; omega

/-- The point's means are the transposed means. -/
theorem block1 (t : Fin cfg0.N) : iblk m c 1 t = V m c main_call0_v1 := by
  funext j; show V m c main_call0_v1 (((cfg0.win 1).blk t).view.emb j) = _; rw [emb1]

/-- The point's covariances are the transposed covariances. -/
theorem block2 (t : Fin cfg0.N) : iblk m c 2 t = V m c main_call0_v4 := by
  funext j; show V m c main_call0_v4 (((cfg0.win 2).blk t).view.emb j) = _; rw [emb2]

/-- The point's columns are the colours with the ones. -/
theorem block3 (t : Fin cfg0.N) : iblk m c 3 t = V m c main_call0_v7 := by
  funext j; show V m c main_call0_v7 (((cfg0.win 3).blk t).view.emb j) = _; rw [emb3]

/-- The point's spreading matrix. -/
theorem block4 (t : Fin cfg0.N) : iblk m c 4 t = V m c main_call0_v16 := by
  funext j; show V m c main_call0_v16 (((cfg0.win 4).blk t).view.emb j) = _; rw [emb4]

/-- The point's gathering matrix. -/
theorem block5 (t : Fin cfg0.N) : iblk m c 5 t = V m c main_call0_v25 := by
  funext j; show V m c main_call0_v25 (((cfg0.win 5).blk t).view.emb j) = _; rw [emb5]

/-- The point's pixels are its rows of the pixels. -/
theorem block0 (t : Fin cfg0.N) (p : Fin 256) (d : Fin 2) :
    iblk m c 0 t (ix2 p d) = m ((c : Thread nD τ).loc main_arg0) (ix2 (place t p) d) := by
  show V m c main_arg0 (((cfg0.win 0).blk t).view.emb (ix2 p d)) = _
  rw [emb0, V_main_arg0]

/-- The distances of row `i`. -/
abbrev dist (i : Fin 8192) : Fin 2048 → EReal :=
  near (m ((c : Thread nD τ).loc main_arg0)) (m ((c : Thread nD τ).loc main_arg1)) (m ((c : Thread nD τ).loc main_arg2)) i

/-- The colours. -/
abbrev tint (k : Fin 3) : Fin 2048 → EReal := fun g => colour (m ((c : Thread nD τ).loc main_arg3)) g k

/-- A row of the point's distances is a row of the distances. -/
theorem row_eq (t : Fin cfg0.N) (p : Fin 256) :
    KernelRow.row (k0_pay3 (iblk m c 0 t) (iblk m c 1 t) (iblk m c 2 t)) p = dist m c (place t p) := by
  funext g
  show k0_pay3 (F := Ideal) (iblk m c 0 t) (iblk m c 1 t) (iblk m c 2 t) (ix2 p g) = _
  rw [block_dist, block0, block0, block1, block2]
  simp only [← ix2_eq_valueIdx]
  rw [Prefix.means, Prefix.means, Prefix.covs m c 0 0 0 rfl, Prefix.covs m c 0 1 1 rfl, Prefix.covs m c 1 0 2 rfl, Prefix.covs m c 1 1 3 rfl]
  simp only [ix2_eq_valueIdx, ix3_eq_valueIdx, ix4_eq_valueIdx]
  rfl

/-- The result the kernel's array ends holding at row `i` and channel `k`. -/
def answer (i : Fin 8192) (k : Fin 3) : EReal :=
  Ideal.div (∑ r ∈ Finset.range 16, part (dist m c i) gauss (tint m c k) r)
    ((∑ r ∈ Finset.range 16, mass (dist m c i) gauss r) + Ideal.ofBits .f32 0x358637BD#32)

/-- What a point writes back, at row `p` and channel `k`. -/
theorem flushed_apply (t : Fin cfg0.N) (p : Fin 256) (k : Fin 3) :
    (dats m 0 c).flushed 6 t (ix2 p k) = answer m c (place t p) k := by
  rw [flushed6]
  show out0_6 (iblk m c 0 t) (iblk m c 1 t) (iblk m c 2 t) (iblk m c 3 t) (iblk m c 4 t) (iblk m c 5 t) (ix2 p k) = _
  rw [out0_6_eq]
  refine (KernelRow.blockOf_apply _ _ ?_ _ ?_ _ ?_ p k).trans ?_
  · intro g; rw [block3, ← ix2_eq_valueIdx]; exact Prefix.ones m c g
  · intro r j; rw [block4, ← ix2_eq_valueIdx]; exact Prefix.expand m c r j
  · intro j k; rw [block5, ← ix2_eq_valueIdx]; exact Prefix.chan m c j k
  · rw [row_eq, block3]
    have h : (fun g => V m c main_call0_v7 (ix2 g (k.castLE (by decide) : Fin 4))) = tint m c k := by
      funext g
      rw [← ix2_eq_valueIdx]
      refine (Prefix.cols m c g k).trans ?_
      rw [ix3_eq_valueIdx]; rfl
    rw [h]; rfl

/-- The kernel's result array, element by element. -/
theorem final (i : Fin 8192) (k : Fin 3) : (dats m 0 c).arrAt 6 cfg0.N (ix2 i k) = answer m c i k := by
  have hN : cfg0.N = 32 := N_0
  let t : Fin cfg0.N := ⟨i.val / 256, by have := i.isLt; omega⟩
  let p : Fin 256 := ⟨i.val % 256, Nat.mod_lt _ (by decide)⟩
  have hi : place t p = i := Fin.ext (by show i.val / 256 * 256 + i.val % 256 = i.val; omega)
  have h := congrFun (blocks6 m c t (flush0_6 t)) (ix2 p k)
  rw [flushed_apply m c t p k, hi] at h
  rw [← h]
  show _ = (dats m 0 c).arrAt 6 cfg0.N (((cfg0.win 6).blk t).view.emb (ix2 p k))
  rw [emb6, hi]

end Cert.Arrays

end
-- ==== Proof.Distance.lean ====
/- The reference's Gaussian weights, element by element. -/
module

public import proofs.«01_k».proof.Proof.Gen.ReferenceIdeal.Read
public import proofs.«01_k».proof.Proof.Entry
public import Idealize.ShloMosaic.PureOps.Ideal.Laws

@[expose] public section

noncomputable section

namespace Cert.Distance

open Cert.ReferenceIdeal Cert.ReferenceIdeal.Read Cert.Entry Cert.Quad
open Idealize.ShloMosaic Idealize.ShloMosaic.ValueIdx

variable (x0 : FVec Ideal S8192x2 .f32) (x1 : FVec Ideal S1x2048x2 .f32) (x2 : FVec Ideal S1x2048x2x2 .f32)

/-- Two indices of rank two with the same coordinates. -/
theorem same2 {a b : ℕ} {j k : (⟨2, ![a, b]⟩ : Shape).Idx} (h0 : (j 0).val = (k 0).val) (h1 : (j 1).val = (k 1).val) : j = k := by
  funext d; apply Fin.ext
  match d with
  | ⟨0, _⟩ => exact h0
  | ⟨1, _⟩ => exact h1

/-- Two indices of rank three with the same coordinates. -/
theorem same3 {a b c : ℕ} {j k : (⟨3, ![a, b, c]⟩ : Shape).Idx} (h0 : (j 0).val = (k 0).val) (h1 : (j 1).val = (k 1).val)
    (h2 : (j 2).val = (k 2).val) : j = k := by
  funext d; apply Fin.ext
  match d with
  | ⟨0, _⟩ => exact h0
  | ⟨1, _⟩ => exact h1
  | ⟨2, _⟩ => exact h2

/-- Two indices of rank four with the same coordinates. -/
theorem same4 {a b c d : ℕ} {j k : (⟨4, ![a, b, c, d]⟩ : Shape).Idx} (h0 : (j 0).val = (k 0).val) (h1 : (j 1).val = (k 1).val)
    (h2 : (j 2).val = (k 2).val) (h3 : (j 3).val = (k 3).val) : j = k := by
  funext d; apply Fin.ext
  match d with
  | ⟨0, _⟩ => exact h0
  | ⟨1, _⟩ => exact h1
  | ⟨2, _⟩ => exact h2
  | ⟨3, _⟩ => exact h3

/-- The first offset. -/
theorem offset0 (i : Fin 8192) (g : Fin 2048) : val_main_v7 (F := Ideal) x0 x1 (ix2 i g) = delta x0 x1 i g 0 := by
  simp only [val_main_v7_apply, val_main_v6_apply, val_main_v5_apply, val_main_v4_apply, val_main_v3_apply, val_main_v2_apply,
    val_main_v1_apply, val_main_v0_apply]
  refine congrArg₂ (fun a b : EReal => a - b) (congrArg x0 (same2 ?_ ?_)) (congrArg x1 (same3 ?_ ?_ ?_)) <;> simp only [ix2, ix3, ix4] <;> dsimp <;> omega

/-- The second offset. -/
theorem offset1 (i : Fin 8192) (g : Fin 2048) : val_main_v15 (F := Ideal) x0 x1 (ix2 i g) = delta x0 x1 i g 1 := by
  simp only [val_main_v15_apply, val_main_v14_apply, val_main_v13_apply, val_main_v12_apply, val_main_v11_apply, val_main_v10_apply,
    val_main_v9_apply, val_main_v8_apply]
  refine congrArg₂ (fun a b : EReal => a - b) (congrArg x0 (same2 ?_ ?_)) (congrArg x1 (same3 ?_ ?_ ?_)) <;> simp only [ix2, ix3, ix4] <;> dsimp <;> omega

/-- The covariance's first entry. -/
theorem entry00 (z : Fin 1) (g : Fin 2048) : val_main_v17 (F := Ideal) x2 (ix2 z g) = entry x2 g 0 0 := by
  simp only [val_main_v17_apply, val_main_v16_apply]
  refine congrArg x2 (same4 ?_ ?_ ?_ ?_) <;> simp only [ix2, ix3, ix4] <;> dsimp <;> omega

/-- The covariance's second entry. -/
theorem entry01 (z : Fin 1) (g : Fin 2048) : val_main_v19 (F := Ideal) x2 (ix2 z g) = entry x2 g 0 1 := by
  simp only [val_main_v19_apply, val_main_v18_apply]
  refine congrArg x2 (same4 ?_ ?_ ?_ ?_) <;> simp only [ix2, ix3, ix4] <;> dsimp <;> omega

/-- The covariance's third entry. -/
theorem entry10 (z : Fin 1) (g : Fin 2048) : val_main_v21 (F := Ideal) x2 (ix2 z g) = entry x2 g 1 0 := by
  simp only [val_main_v21_apply, val_main_v20_apply]
  refine congrArg x2 (same4 ?_ ?_ ?_ ?_) <;> simp only [ix2, ix3, ix4] <;> dsimp <;> omega

/-- The covariance's fourth entry. -/
theorem entry11 (z : Fin 1) (g : Fin 2048) : val_main_v23 (F := Ideal) x2 (ix2 z g) = entry x2 g 1 1 := by
  simp only [val_main_v23_apply, val_main_v22_apply]
  refine congrArg x2 (same4 ?_ ?_ ?_ ?_) <;> simp only [ix2, ix3, ix4] <;> dsimp <;> omega

/-- The reference's weight: the Gaussian of the distance by elimination. -/
theorem weight_apply (i : Fin 8192) (g : Fin 2048) : val_main_v51 (F := Ideal) x0 x1 x2 (ix2 i g) = gauss (far x0 x1 x2 i g) := by
  simp only [val_main_v51_apply, val_main_v50_apply, val_main_v49_apply, val_main_cst_apply, val_main_v48_apply, val_main_v47_apply,
    val_main_v46_apply, val_main_v45_apply, val_main_v44_apply, val_main_v43_apply, val_main_v42_apply, val_main_v41_apply,
    val_main_v40_apply, val_main_v39_apply, val_main_v38_apply, val_main_v37_apply, val_main_v36_apply, val_main_v35_apply,
    val_main_v34_apply, val_main_v33_apply, val_main_v32_apply, val_main_call5_v0_apply, val_main_v31_apply, val_main_v30_apply,
    val_main_v29_apply, val_main_call2_v0_apply, val_main_v28_apply, val_main_v27_apply, val_main_v26_apply, val_main_v25_apply,
    val_main_v24_apply, offset0, offset1]
  have h (j : S1x2048.Idx) (hj : (j 1).val = g.val) : j = ix2 0 g :=
    same2 (by have := (j 0).isLt; have : S1x2048.size 0 = 1 := rfl; show (j 0).val = 0; omega) hj
  rw [h (idx_main_v44 (ix2 i g)) rfl, h (idx_main_v41 (ix2 i g)) rfl, h (idx_main_v39 (ix2 i g)) rfl, h (idx_main_v34 (ix2 i g)) rfl,
    h (idx_main_call2_v0 (ix2 i g)) rfl, h (idx_main_call5_v0 (ix2 i g)) rfl, entry00, entry01, entry10, entry11]
  rfl

end Cert.Distance

end
-- ==== Proof.TopK.lean ====
/- The greatest entries of each row, as positions: what the top-k of a rank-two array reads.

   Row `i` has an order `pos x i` of all its positions, greatest entry first, and the `k`-th value and the `k`-th
   index of the top-k are the entry at `pos x i k` and that position itself. -/
module

public import Idealize.ShloMosaic.PureOps.Ideal.Laws
public import Idealize.ShloMosaic.Lib.SortFacts
public import Idealize.ShloMosaic.Lib.ValueIdx
public import Idealize.ShloMosaic.Lib.Pipeline.Value

@[expose] public section

noncomputable section

namespace Cert.TopK

open Idealize.ShloMosaic Idealize.ShloMosaic.ValueIdx

variable {R n K : ℕ} (x : FVec Ideal ⟨2, ![R, n]⟩ .f32)

/-- Whether the entry at `g` goes strictly before the entry at `h` in row `i`. -/
def before (i : Fin R) (g h : Fin n) : Bool := decide (x (ix2 i h) < x (ix2 i g))

/-- The positions of row `i`, greatest entry first. -/
def pos (i : Fin R) : Fin n → Fin n := sortedFrom (before x i)

/-- No position is taken twice. -/
theorem pos_injective (i : Fin R) : Function.Injective (pos x i) := sortedFrom_injective _

/-- Every position is taken. -/
theorem pos_surjective (i : Fin R) : Function.Surjective (pos x i) := sortedFrom_surjective _

/-- A later position holds no greater entry. -/
theorem pos_le (i : Fin R) (a b : Fin n) (hab : a ≤ b) : x (ix2 i (pos x i b)) ≤ x (ix2 i (pos x i a)) := by
  rcases hab.eq_or_lt with rfl | hlt
  · exact le_rfl
  · have h := sortedFrom_noInversion (before x i) (before x i)
      (fun a b h => by
        have h1 := of_decide_eq_true h
        exact decide_eq_false (not_lt.mpr h1.le))
      (fun _ _ h => h)
      (fun a b c h1 h2 => by
        have h3 := not_lt.mp (of_decide_eq_false h1)
        have h4 := not_lt.mp (of_decide_eq_false h2)
        exact decide_eq_false (not_lt.mpr (h3.trans h4))) a b hlt
    exact not_lt.mp (of_decide_eq_false h)

/-- The order of the fibre through `(i, j)` is the order of row `i`. -/
theorem sorted_eq (i : Fin R) (j : Fin n) :
    sortedFrom (fun k k' : Fin n =>
        FloatOps.cmpfTotal (F := Ideal) (φ := .f32) .gt (x (Function.update (ix2 i j) (1 : Fin 2) k)) (x (Function.update (ix2 i j) (1 : Fin 2) k')) == 1#1)
      = pos x i := by
  have hu : ∀ k : Fin n, Function.update (ix2 i j) (1 : Fin 2) k = ix2 i k := by
    intro k; funext a
    match a with
    | ⟨0, _⟩ => rfl
    | ⟨1, _⟩ => rfl
  unfold pos
  congr 1
  funext k k'
  rw [hu, hu]
  unfold before
  show (BitVec.ofBool (decide (x (ix2 i k') < x (ix2 i k))) == 1#1) = _
  cases decide (x (ix2 i k') < x (ix2 i k)) <;> rfl

variable (h : (⟨2, ![R, n]⟩ : Shape).Slices (fun _ => 0) ⟨2, ![R, K]⟩)

/-- Place `k` of the top-k among all places. -/
def wide (hK : K ≤ n) (k : Fin K) : Fin n := k.castLE hK

/-- Moving a place of a matrix along the second axis changes its second coordinate. -/
theorem along_eq (i : Fin R) (j k : Fin n) :
    Shape.Idx.along (s := ⟨2, ![R, n]⟩) (ix2 i j) (1 : Fin 2) k = ix2 i k := by
  funext a
  match a with
  | ⟨0, _⟩ => rfl
  | ⟨1, _⟩ => rfl

/-- The first `K` columns of a matrix are its columns below `K`. -/
theorem slice_place (hK : K ≤ n) (i : Fin R) (k : Fin K) {α : Type} (y : (⟨2, ![R, n]⟩ : Shape).Idx → α) :
    extractStridedSlice ⟨2, ![R, K]⟩ (fun _ => 0) y h (ix2 i k) = y (ix2 i (wide hK k)) :=
  extractStridedSlice_apply _ y h (ix2 i k) (ix2 i (wide hK k)) (fun a => match a with
    | ⟨0, _⟩ => (Nat.zero_add _).symm
    | ⟨1, _⟩ => (Nat.zero_add _).symm)

/-- The `k`-th greatest value. -/
theorem value_apply (hK : K ≤ n) (i : Fin R) (k : Fin K) :
    (Host.topK ⟨2, ![R, K]⟩ 1 (FloatOps.cmpfTotal (F := Ideal) (φ := .f32) .gt) x h).1 (ix2 i k) = x (ix2 i (pos x i (wide hK k))) := by
  unfold Host.topK
  dsimp only
  refine (slice_place h hK i k _).trans ?_
  rw [← along_eq i (wide hK k) (pos x i (wide hK k)), ← sorted_eq x i (wide hK k)]
  rfl

/-- The `k`-th greatest value's position. -/
theorem index_apply (hK : K ≤ n) (i : Fin R) (k : Fin K) :
    (Host.topK ⟨2, ![R, K]⟩ 1 (FloatOps.cmpfTotal (F := Ideal) (φ := .f32) .gt) x h).2 (ix2 i k) = BitVec.ofNat 32 (pos x i (wide hK k)).val := by
  unfold Host.topK
  dsimp only
  refine (slice_place h hK i k _).trans ?_
  rw [← sorted_eq x i (wide hK k)]
  rfl

end Cert.TopK

end
-- ==== Proof.Gather.lean ====
/- The reference's colours of the sixteen greatest weights, and its result, element by element. -/
module

public import proofs.«01_k».proof.Proof.Distance
public import proofs.«01_k».proof.Proof.TopK
public import Idealize.ShloMosaic.PureOps.Reduce
public import Idealize.ShloMosaic.Lib.IdealHost

@[expose] public section

noncomputable section

namespace Cert.Gather

open Cert.ReferenceIdeal Cert.ReferenceIdeal.Gen Cert.ReferenceIdeal.Read Cert.Entry Cert.Quad Cert.Distance Cert.TopK
open Idealize.ShloMosaic Idealize.ShloMosaic.ValueIdx
open scoped BigOperators

variable (x0 : FVec Ideal S8192x2 .f32) (x1 : FVec Ideal S1x2048x2 .f32) (x2 : FVec Ideal S1x2048x2x2 .f32)
  (x3 : FVec Ideal S1x2048x3 .f32)

/-- The Gaussian with the `k`-th greatest weight at pixel `i`. -/
def chosen (i : Fin 8192) (k : Fin 16) : Fin 2048 := pos (val_main_v51 (F := Ideal) x0 x1 x2) i (wide (by decide) k)

/-- Its weight. -/
theorem values_apply (i : Fin 8192) (k : Fin 16) :
    val_main_values (F := Ideal) x0 x1 x2 (ix2 i k) = gauss (far x0 x1 x2 i (chosen x0 x1 x2 i k)) :=
  (value_apply (val_main_v51 (F := Ideal) x0 x1 x2) sliceFits_S8192x2048_S8192x16 (by decide) i k).trans (weight_apply x0 x1 x2 i _)

/-- Its position as a word. -/
theorem indices_apply (i : Fin 8192) (k : Fin 16) :
    val_main_indices (F := Ideal) x0 x1 x2 (ix2 i k) = BitVec.ofNat 32 (chosen x0 x1 x2 i k).val :=
  index_apply (val_main_v51 (F := Ideal) x0 x1 x2) sliceFits_S8192x2048_S8192x16 (by decide) i k

/-- The position spread over the channels. -/
theorem spread_apply (i : Fin 8192) (k : Fin 16) (c : Fin 3) :
    val_main_v55 (F := Ideal) x0 x1 x2 (ix3 i k c) = BitVec.ofNat 32 (chosen x0 x1 x2 i k).val := by
  rw [val_main_v55_apply, val_main_v54_apply, show idx_main_v54 (idx_main_v55 (ix3 i k c)) = ix2 i k from same2 rfl rfl, indices_apply]

/-- A word below 2048 is not negative. -/
theorem word_ge (n : Fin 2048) : IntOp.cmpi .sge (BitVec.ofNat 32 n.val) 0#32 = 1#1 ∧ IntOp.cmpi .slt (BitVec.ofNat 32 n.val) 0#32 = 0#1
    ∧ IntOp.cmpi .sle (BitVec.ofNat 32 n.val) 2047#32 = 1#1 ∧ (BitVec.ofNat 32 n.val).toInt.toNat = n.val := by
  revert n; decide +kernel

/-- The position, wrapped if it were negative: itself. -/
theorem wrapped_apply (i : Fin 8192) (k : Fin 16) (c : Fin 3) (z : Fin 1) :
    val_main_call6_v5 (F := Ideal) x0 x1 x2 (ix4 i k c z) = BitVec.ofNat 32 (chosen x0 x1 x2 i k).val := by
  rw [val_main_call6_v5_apply]
  rw [show idx_main_call6_v5 (ix4 i k c z) = ix3 i k c from same3 (by simp only [ix3, ix4]; dsimp; omega) (by simp only [ix3, ix4]; dsimp; omega)
    (by simp only [ix3, ix4]; dsimp; omega)]
  rw [val_main_call6_v4_apply, val_main_call6_v1_apply, val_main_call6_v0_apply, val_main_call6_c_apply, spread_apply,
    (word_ge _).2.1]
  rfl

/-- The position is in range. -/
theorem range_apply (j : S8192x16x3x1.Idx) : val_main_call6_v11 (F := Ideal) x0 x1 x2 j = 1#1 := by
  obtain ⟨i, k, c, z, rfl⟩ : ∃ i k c z, j = ix4 i k c z := ⟨j 0, j 1, j 2, j 3, same4 rfl rfl rfl rfl⟩
  rw [val_main_call6_v11_apply, val_main_call6_v10_apply, val_main_call6_v9_apply, val_main_call6_v8_apply, val_main_call6_c_1_apply,
    val_main_call6_v7_apply, val_main_call6_v6_apply, val_main_call6_c_2_apply, wrapped_apply, (word_ge _).1, (word_ge _).2.2.1]
  rfl

/-- Ones and one make one. -/
theorem fold_ones {ι : Type} [DecidableEq ι] (s : Finset ι) : Finset.fold (IntOp.andi (w := 1)) 1#1 (fun _ => 1#1) s = 1#1 := by
  induction s using Finset.induction_on with
  | empty => rfl
  | insert a s ha ih => rw [Finset.fold_insert ha, ih]; rfl

/-- The whole index vector is in range. -/
theorem inside_apply (j : S8192x16x3.Idx) : val_main_call6_v12 (F := Ideal) x0 x1 x2 j = 1#1 := by
  unfold val_main_call6_v12
  rw [show val_main_call6_v11 (F := Ideal) x0 x1 x2 = fun _ => 1#1 from funext (range_apply x0 x1 x2)]
  refine (Host.reduce_eq_fold_single IntOp.andi _ _ reducesTo_S8192x16x3x1_S8192x16x3_d3 (by decide) h_S_ j).trans ?_
  exact fold_ones _

/-- The gather's dimension numbers. -/
abbrev dims := gather_S8192x2048x3_S8192x16x3x1_S8192x16x3_n_1_02_02_1_3_111

/-- The batch coordinate of the rows. -/
theorem batch_row (j : S8192x16x3.Idx) : GatherDims.batchCoord dims j 0 = (j 0).val := by
  unfold GatherDims.batchCoord
  rw [dif_pos (show (0 : Fin 3) ∈ GatherDims.operandBatchingDims dims from (by decide : (0 : Fin 3) ∈ [(0 : Fin 3), 2]))]
  unfold GatherDims.siCoord
  simp only [Fin.val_cast]
  rfl

/-- The batch coordinate of the channels. -/
theorem batch_channel (j : S8192x16x3.Idx) : GatherDims.batchCoord dims j 2 = (j 2).val := by
  unfold GatherDims.batchCoord
  rw [dif_pos (show (2 : Fin 3) ∈ GatherDims.operandBatchingDims dims from (by decide : (2 : Fin 3) ∈ [(0 : Fin 3), 2]))]
  unfold GatherDims.siCoord
  simp only [Fin.val_cast]
  rfl

/-- The slices have one element: no offset. -/
theorem no_offset (j : S8192x16x3.Idx) (a : Fin 3) : GatherDims.offCoord dims j a = 0 := by
  refine GatherDims.offCoord_eq_zero _ _ _ ?_
  rw [GatherDims.mem_sKept]
  show ¬ (a ∉ [(1 : Fin 3)] ∧ a ∉ [(0 : Fin 3), 2])
  revert a; decide

/-- The start along the Gaussians is the position, kept within them. -/
theorem start_eq (i : Fin 8192) (k : Fin 16) (c : Fin 3) (idx : IVec S8192x16x3x1 32) :
    GatherDims.start dims (ix3 i k c) idx 1 = min (idx (ix4 i k c 0)).toInt.toNat 2047 := by
  unfold GatherDims.start
  rw [dif_pos (show (1 : Fin 3) ∈ GatherDims.startIndexMap dims from (by decide : (1 : Fin 3) ∈ [(1 : Fin 3)]))]
  refine congrArg₂ min (congrArg (fun x => (idx x).toInt.toNat) (same4 ?_ ?_ ?_ ?_)) rfl
  · unfold GatherDims.siIdx
    rw [dif_neg (by show ¬ (0 = 3); decide)]
    unfold GatherDims.siCoord
    simp only [Fin.val_cast]
    rfl
  · unfold GatherDims.siIdx
    rw [dif_neg (by show ¬ (1 = 3); decide)]
    unfold GatherDims.siCoord
    simp only [Fin.val_cast]
    rfl
  · unfold GatherDims.siIdx
    rw [dif_neg (by show ¬ (2 = 3); decide)]
    unfold GatherDims.siCoord
    simp only [Fin.val_cast]
    rfl
  · have h : ∀ a b : Fin 1, a.val = b.val := by decide
    exact h _ _

/-- Along the rows and the channels the start is zero. -/
theorem start_batch (j : S8192x16x3.Idx) (idx : IVec S8192x16x3x1 32) (a : Fin 3) (ha : a ∈ [(0 : Fin 3), 2]) :
    GatherDims.start dims j idx a = 0 := GatherDims.start_batching _ _ _ _ ha

/-- The gather reads the colour at the position. -/
theorem gather_apply (y : FVec Ideal S8192x2048x3 .f32) (idx : IVec S8192x16x3x1 32) (i : Fin 8192) (k : Fin 16) (c : Fin 3) (n : Fin 2048)
    (hn : idx (ix4 i k c 0) = BitVec.ofNat 32 n.val) : Host.gather dims y idx (ix3 i k c) = y (ix3 i n c) := by
  unfold Host.gather
  refine congrArg y (same3 ?_ ?_ ?_)
  · show GatherDims.start dims (ix3 i k c) idx 0 + GatherDims.batchCoord dims (ix3 i k c) 0 + GatherDims.offCoord dims (ix3 i k c) 0 = i.val
    rw [start_batch _ _ 0 (by decide), batch_row, no_offset, Nat.zero_add, Nat.add_zero]
  · show GatherDims.start dims (ix3 i k c) idx 1 + GatherDims.batchCoord dims (ix3 i k c) 1 + GatherDims.offCoord dims (ix3 i k c) 1 = n.val
    rw [start_eq, no_offset, GatherDims.batchCoord_eq_zero _ _ _ (show (1 : Fin 3) ∉ GatherDims.operandBatchingDims dims from (by decide : (1 : Fin 3) ∉ [(0 : Fin 3), 2])),
      hn, (word_ge n).2.2.2]
    have := n.isLt; omega
  · show GatherDims.start dims (ix3 i k c) idx 2 + GatherDims.batchCoord dims (ix3 i k c) 2 + GatherDims.offCoord dims (ix3 i k c) 2 = c.val
    rw [start_batch _ _ 2 (by decide), batch_channel, no_offset, Nat.zero_add, Nat.add_zero]

/-- The gathered colour. -/
theorem colour_apply (i : Fin 8192) (k : Fin 16) (c : Fin 3) :
    val_main_v56 (F := Ideal) x0 x1 x2 x3 (ix3 i k c) = colour x3 (chosen x0 x1 x2 i k) c := by
  rw [val_main_v56_apply, inside_apply]
  show val_main_call6_v13 (F := Ideal) x0 x1 x2 x3 (ix3 i k c) = _
  unfold val_main_call6_v13
  refine (gather_apply _ _ i k c _ (wrapped_apply x0 x1 x2 i k c 0)).trans ?_
  rw [val_main_v53_apply]
  generalize chosen x0 x1 x2 i k = n
  exact congrArg x3 (same3 rfl rfl rfl)

/-- The reference's result at pixel `i` and channel `c`. -/
theorem result_apply (i : Fin 8192) (c : Fin 3) :
    val_main_v64 (F := Ideal) x0 x1 x2 x3 (ix2 i c)
      = Ideal.div (∑ k : Fin 16, gauss (far x0 x1 x2 i (chosen x0 x1 x2 i k)) * colour x3 (chosen x0 x1 x2 i k) c)
          ((∑ k : Fin 16, gauss (far x0 x1 x2 i (chosen x0 x1 x2 i k))) + Ideal.ofBits .f32 0x358637BD#32) := by
  have hs (k : Fin 16) (z : Fin 1) : val_main_v52 (F := Ideal) x0 x1 x2 (ix3 i k z) = gauss (far x0 x1 x2 i (chosen x0 x1 x2 i k)) := by
    rw [val_main_v52_apply, show idx_main_v52 (ix3 i k z) = ix2 i k from same2 rfl rfl, values_apply]
  have hp (k : Fin 16) : val_main_v58 (F := Ideal) x0 x1 x2 x3 (ix3 i k c)
      = gauss (far x0 x1 x2 i (chosen x0 x1 x2 i k)) * colour x3 (chosen x0 x1 x2 i k) c := by
    rw [val_main_v58_apply, colour_apply, val_main_v57_apply, show idx_main_v57 (ix3 i k c) = ix3 i k 0 from same3 rfl rfl rfl, hs]
    rfl
  rw [val_main_v64_apply, val_main_v63_apply, val_main_v62_apply, val_main_v61_apply, val_main_cst_2_apply, val_main_v60_apply,
    val_main_v59_apply, val_main_cst_0_apply, val_main_cst_1_apply]
  show Ideal.div (Ideal.ofBits .f32 0x00000000#32 + _) (Ideal.ofBits .f32 0x00000000#32 + _ + Ideal.ofBits .f32 0x358637BD#32) = _
  rw [Ideal.ofBits_zero_f32, zero_add, zero_add]
  refine congrArg₂ Ideal.div (Finset.sum_congr rfl fun k _ => ?_) (congrArg (· + _) (Finset.sum_congr rfl fun k _ => ?_))
  · rw [show idx_main_v59 (ix2 i c) k = ix3 i k c from same3 rfl rfl rfl]; exact hp k
  · rw [show idx_main_v60 (idx_main_v63 (ix2 i c)) k = ix3 i k 0 from same3 rfl rfl rfl]; exact hs k 0

end Cert.Gather

end
-- ==== Proof.Predicates.lean ====
/- What the precondition and the mask say, element by element. -/
module

public import proofs.«01_k».proof.Proof.Gather
public import proofs.«01_k».proof.Proof.Gen.Pre_well_posed
public import proofs.«01_k».proof.Proof.Gen.On_top_k_unambiguous
public import Idealize.ShloMosaic.Lib.Pointwise
public import Idealize.ShloMosaic.Lib.Pointwise.IndexBridge

@[expose] public section

noncomputable section

namespace Cert.Predicates

open Cert.ReferenceIdeal Cert.ReferenceIdeal.Read Cert.Entry Cert.Quad Cert.Distance Cert.TopK
open Idealize.ShloMosaic hiding ix1 ix2 ix3 ix4
open Idealize.ShloMosaic.ValueIdx

variable (x0 : FVec Ideal S8192x2 .f32) (x1 : FVec Ideal S1x2048x2 .f32) (x2 : FVec Ideal S1x2048x2x2 .f32)
  (x3 : FVec Ideal S1x2048x3 .f32)

/-- A bit that is one states its proposition. -/
theorem of_bit {P : Prop} [Decidable P] (h : BitVec.ofBool (decide P) = 1#1) : P := by
  by_contra hP
  rw [decide_eq_false hP] at h
  exact absurd h (by decide)

/-- A number whose absolute value is below infinity is real. -/
theorem real_of_abs (a : EReal) (h : Ideal.cmp .olt (max a (-a)) (Ideal.ofBits .f32 0x7F800000#32) = 1#1) : ∃ r : ℝ, a = r := by
  have ht : Ideal.ofBits .f32 0x7F800000#32 = ⊤ := by simp [Ideal.ofBits, Ideal.ieee]
  rw [ht] at h
  have hl : max a (-a) < ⊤ := of_bit h
  induction a with
  | bot => simp at hl
  | coe r => exact ⟨r, rfl⟩
  | top => simp at hl

/-- The precondition: the pixels, the means and the covariances are real, and no determinant is zero. -/
theorem well_posed
    (h : (Pre_well_posed.fn (F := Ideal) x0 x1 x2 x3).1 = (fun _ => 1#1) ∧ (Pre_well_posed.fn (F := Ideal) x0 x1 x2 x3).2.1 = (fun _ => 1#1)
      ∧ (Pre_well_posed.fn (F := Ideal) x0 x1 x2 x3).2.2.1 = (fun _ => 1#1) ∧ (Pre_well_posed.fn (F := Ideal) x0 x1 x2 x3).2.2.2 = (fun _ => 1#1)) :
    (∀ j, ∃ r : ℝ, x0 j = (r : EReal)) ∧ (∀ j, ∃ r : ℝ, x1 j = (r : EReal)) ∧ (∀ j, ∃ r : ℝ, x2 j = (r : EReal))
      ∧ ∀ g, entry x2 g 0 0 * entry x2 g 1 1 - entry x2 g 0 1 * entry x2 g 1 0 ≠ 0 := by
  obtain ⟨h0, h1, h2, h3⟩ := h
  refine ⟨fun j => real_of_abs _ (congrFun h0 j), fun j => real_of_abs _ (congrFun h1 j), fun j => real_of_abs _ (congrFun h2 j), fun g => ?_⟩
  have e : (Pre_well_posed.fn (F := Ideal) x0 x1 x2 x3).2.2.2 (ix2 0 g)
      = Ideal.cmp .une (val_main_v17 (F := Ideal) x2 (ix2 0 g) * val_main_v23 (F := Ideal) x2 (ix2 0 g)
          - val_main_v19 (F := Ideal) x2 (ix2 0 g) * val_main_v21 (F := Ideal) x2 (ix2 0 g)) (Ideal.ofBits .f32 0x00000000#32) := rfl
  rw [congrFun h3 (ix2 0 g), entry00, entry01, entry10, entry11, Ideal.ofBits_zero_f32] at e
  exact of_bit e.symm

open On_top_k_unambiguous.Facts in
/-- The mask of the seventeen greatest weights of each row: whether the sixteenth is above the seventeenth. -/
def mask (y : FVec Ideal On_top_k_unambiguous.S8192x17 .f32) : IVec S8192x3 1 :=
  broadcastInDim S8192x3 ![0, 1] bcast_S8192x1_S8192x3_0_1 (broadcastInDim S8192x1 ![0] bcast_S8192_S8192x1_0
    (cmpf .ogt (shapeCast S8192 (extractStridedSlice S8192x1 ![0, 15] y slices_S8192x17_S8192x1_0_15) shapeCasts_S8192x1_S8192)
      (shapeCast S8192 (extractStridedSlice S8192x1 ![0, 16] y slices_S8192x17_S8192x1_0_16) shapeCasts_S8192x1_S8192)))

/-- The mask at a row, whatever the channel. -/
theorem mask_apply (y : FVec Ideal On_top_k_unambiguous.S8192x17 .f32) (i : Fin 8192) (c : Fin 3) :
    mask y (ix2 i c) = Ideal.cmp .ogt (y (ix2 i 15)) (y (ix2 i 16)) := by
  unfold mask
  simp only [← ix2_eq_valueIdx]
  pointwise

/-- The seventeen greatest of each row. -/
def greatest (y : FVec Ideal S8192x2048 .f32) : FVec Ideal On_top_k_unambiguous.S8192x17 .f32 :=
  (Host.topK On_top_k_unambiguous.S8192x17 1 (FloatOps.cmpfTotal (F := Ideal) (φ := .f32) .gt) y
    On_top_k_unambiguous.Facts.sliceFits_S8192x2048_S8192x17).1

/-- The mask is taken of the reference's weights. -/
theorem mask_eq : On_top_k_unambiguous.fn (F := Ideal) x0 x1 x2 x3 = mask (greatest (val_main_v51 (F := Ideal) x0 x1 x2)) := rfl

/-- The mask: the sixteenth greatest weight of the row is above the seventeenth. -/
theorem unambiguous (i : Fin 8192) (c : Fin 3) (h : On_top_k_unambiguous.fn (F := Ideal) x0 x1 x2 x3 (ix2 i c) = 1#1) :
    val_main_v51 (F := Ideal) x0 x1 x2 (ix2 i (pos (val_main_v51 (F := Ideal) x0 x1 x2) i 16))
      < val_main_v51 (F := Ideal) x0 x1 x2 (ix2 i (pos (val_main_v51 (F := Ideal) x0 x1 x2) i 15)) := by
  rw [mask_eq, mask_apply] at h
  have hl := of_bit h
  unfold greatest at hl
  rw [value_apply _ _ (by decide) i 15, value_apply _ _ (by decide) i 16] at hl
  exact hl

end Cert.Predicates

end
-- ==== Proof.Agree.lean ====
/- The kernel's rounds and the reference's top-k give the same colour, under the precondition and where the mask holds. -/
module

public import proofs.«01_k».proof.Proof.Predicates
public import proofs.«01_k».proof.Proof.Select

@[expose] public section

noncomputable section

namespace Cert.Agree

open Cert.ReferenceIdeal Cert.ReferenceIdeal.Read Cert.Entry Cert.Quad Cert.Distance Cert.TopK Cert.Gather Cert.Select
open Idealize.ShloMosaic hiding ix1 ix2 ix3 ix4
open Idealize.ShloMosaic.ValueIdx
open scoped BigOperators

variable (x0 : FVec Ideal S8192x2 .f32) (x1 : FVec Ideal S1x2048x2 .f32) (x2 : FVec Ideal S1x2048x2x2 .f32)
  (x3 : FVec Ideal S1x2048x3 .f32)

/-- Both distances are one real number. -/
theorem dist_real (h0 : ∀ j, ∃ r : ℝ, x0 j = (r : EReal)) (h1 : ∀ j, ∃ r : ℝ, x1 j = (r : EReal)) (h2 : ∀ j, ∃ r : ℝ, x2 j = (r : EReal))
    (hd : ∀ g, entry x2 g 0 0 * entry x2 g 1 1 - entry x2 g 0 1 * entry x2 g 1 0 ≠ 0) (i : Fin 8192) :
    ∃ Q : Fin 2048 → ℝ, ∀ g, near x0 x1 x2 i g = (Q g : EReal) ∧ far x0 x1 x2 i g = (Q g : EReal) := by
  have hq : ∀ g, ∃ r : ℝ, near x0 x1 x2 i g = (r : EReal) ∧ far x0 x1 x2 i g = (r : EReal) := by
    intro g
    have hdel (d : Fin 2) : ∃ r : ℝ, delta x0 x1 i g d = (r : EReal) := by
      obtain ⟨a, ha⟩ := h0 (ix2 i d)
      obtain ⟨b, hb⟩ := h1 (ix3 0 g d)
      exact ⟨a - b, by unfold delta; rw [ha, hb]; rfl⟩
    have hent (a b : Fin 2) : ∃ r : ℝ, entry x2 g a b = (r : EReal) := h2 (ix4 0 g a b)
    obtain ⟨d0, e0⟩ := hdel 0
    obtain ⟨d1, e1⟩ := hdel 1
    obtain ⟨a, ea⟩ := hent 0 0
    obtain ⟨b, eb⟩ := hent 0 1
    obtain ⟨c, ec⟩ := hent 1 0
    obtain ⟨e, ee⟩ := hent 1 1
    have hdet : a * e - b * c ≠ 0 := by
      have h := hd g
      rw [ea, eb, ec, ee] at h
      intro hz
      exact h (by exact_mod_cast hz)
    refine ⟨real d0 d1 a b c e, ?_, ?_⟩
    · unfold near; rw [e0, e1, ea, eb, ec, ee]; exact cramer_coe d0 d1 a b c e hdet
    · unfold far; rw [e0, e1, ea, eb, ec, ee]; exact elim_coe d0 d1 a b c e hdet
  choose Q hQ using hq
  exact ⟨Q, hQ⟩

/-- The sixteen rounds over the nearest Gaussians divide to the reference's result. -/
theorem rounds_eq (h0 : ∀ j, ∃ r : ℝ, x0 j = (r : EReal)) (h1 : ∀ j, ∃ r : ℝ, x1 j = (r : EReal)) (h2 : ∀ j, ∃ r : ℝ, x2 j = (r : EReal))
    (hd : ∀ g, entry x2 g 0 0 * entry x2 g 1 1 - entry x2 g 0 1 * entry x2 g 1 0 ≠ 0) (i : Fin 8192) (c : Fin 3)
    (ho : On_top_k_unambiguous.fn (F := Ideal) x0 x1 x2 x3 (ix2 i c) = 1#1) :
    Ideal.div (∑ r ∈ Finset.range 16, part (near x0 x1 x2 i) gauss (fun g => colour x3 g c) r)
        ((∑ r ∈ Finset.range 16, mass (near x0 x1 x2 i) gauss r) + Ideal.ofBits .f32 0x358637BD#32)
      = val_main_v64 (F := Ideal) x0 x1 x2 x3 (ix2 i c) := by
  obtain ⟨Q, hQ⟩ := dist_real x0 x1 x2 h0 h1 h2 hd i
  have hn : near x0 x1 x2 i = fun g => (Q g : EReal) := funext fun g => (hQ g).1
  have hf (g : Fin 2048) : far x0 x1 x2 i g = (Q g : EReal) := (hQ g).2
  rw [result_apply, hn]
  simp only [hf]
  have hgap := Predicates.unambiguous x0 x1 x2 x3 i c ho
  have hle := pos_le (val_main_v51 (F := Ideal) x0 x1 x2) i
  simp only [weight_apply, hf] at hgap hle
  have hsurj := pos_surjective (val_main_v51 (F := Ideal) x0 x1 x2) i
  have hinj : Function.Injective (chosen x0 x1 x2 i) := fun a b hab =>
    Fin.castLE_injective _ (pos_injective (val_main_v51 (F := Ideal) x0 x1 x2) i hab)
  have hch (k : Fin 16) : chosen x0 x1 x2 i k = pos (val_main_v51 (F := Ideal) x0 x1 x2) i (k.castLE (by decide)) := rfl
  generalize pos (val_main_v51 (F := Ideal) x0 x1 x2) i = p at hgap hle hsurj hch
  generalize chosen x0 x1 x2 i = s at hinj hch
  have hcard : (Finset.univ.image s).card = 16 := by rw [Finset.card_image_of_injective _ hinj]; rfl
  have hsep : ∀ g ∈ Finset.univ.image s, ∀ h, h ∉ Finset.univ.image s → (Q g : EReal) < Q h := by
    intro g hg h hh
    obtain ⟨k, -, rfl⟩ := Finset.mem_image.mp hg
    obtain ⟨b, rfl⟩ := hsurj h
    have hb : 16 ≤ b.val := by
      by_contra hlt
      exact hh (Finset.mem_image.mpr ⟨⟨b.val, by omega⟩, Finset.mem_univ _, (hch _).trans rfl⟩)
    have hk := k.isLt
    have l1 := hle 16 b (by show (16 : ℕ) ≤ b.val; exact hb)
    have l2 := hle (k.castLE (by decide)) 15 (by show k.val ≤ 15; omega)
    rw [hch]
    exact (gauss_lt _ _).mp (l1.trans_lt (hgap.trans_le l2))
  obtain ⟨e1, e2⟩ := sum_rounds (q := fun g => (Q g : EReal)) (e := gauss) (fun g => colour x3 g c) (by decide)
    (fun g => EReal.coe_lt_top _) (fun g => gauss_range _) hcard hsep
  rw [e1, e2, Finset.sum_image fun a _ b _ h => hinj h, Finset.sum_image fun a _ b _ h => hinj h]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_well_posed
public import proofs.«01_k».proof.Proof.Gen.On_top_k_unambiguous
public import proofs.«01_k».proof.Proof.Arrays
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs from every memory, keeps its arguments and leaves every semaphore at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, under the precondition and where the mask holds, the kernel and the reference give one colour:
    the kernel's final array. -/
theorem algebraic : Cert.algebraic_KernelIdeal_ReferenceIdeal_on_top_k_unambiguous_pre_well_posed := by
  intro m g m' g' hpre hagree
  refine ⟨fun c => (Cert.KernelIdeal.Gen.dats m 0 c).arrAt 6 Cert.KernelIdeal.cfg0.N, ?_, ?_⟩
  · exact (θ_run _ _ _).mono (fun _ h c => ⟨fun i _ => congrFun (h c).1 i, (h c).2⟩) (Cert.KernelIdeal.Value.run_blocks m g)
  · refine (θ_run _ _ _).mono (fun r h c => ⟨fun i hi => ?_, (h c).2⟩) (Cert.ReferenceIdeal.Value.run m' g')
    obtain ⟨p, k, rfl⟩ : ∃ p k, i = ValueIdx.ix2 p k := ⟨i 0, i 1, Cert.Distance.same2 rfl rfl⟩
    obtain ⟨h0, h1, h2, hd⟩ := Cert.Predicates.well_posed _ _ _ _ (hpre c)
    obtain ⟨a0, a1, a2, a3⟩ := hagree c
    have hv : r.2.mem ((c.tc : Thread Cert.ReferenceIdeal.nD Cert.ReferenceIdeal.τ).loc Cert.ReferenceIdeal.main_v64) = _ :=
      (h c).1.trans (Cert.ReferenceIdeal.Read.val_main_v64_eq (StableHlo.launchContents m' c))
    refine (congrFun hv (ValueIdx.ix2 p k)).trans ?_
    have e0 : StableHlo.launchContents m' c (Proc.devRef .tc Cert.ReferenceIdeal.main_arg0) = _ := a0
    have e1 : StableHlo.launchContents m' c (Proc.devRef .tc Cert.ReferenceIdeal.main_arg1) = _ := a1
    have e2 : StableHlo.launchContents m' c (Proc.devRef .tc Cert.ReferenceIdeal.main_arg2) = _ := a2
    have e3 : StableHlo.launchContents m' c (Proc.devRef .tc Cert.ReferenceIdeal.main_arg3) = _ := a3
    rw [e0, e1, e2, e3]
    refine (Cert.Agree.rounds_eq _ _ _ _ h0 h1 h2 hd p k hi).symm.trans ?_
    exact (Cert.Arrays.final m c p k).symm

/-- Every claim made of the kernel and the reference. -/
theorem claim : Cert.Claim := ⟨Cert.Kernel.Gen.facts, Cert.KernelIdeal.Gen.facts, Cert.ReferenceIdeal.Gen.facts, Cert.Pre_well_posed.Gen.facts, Cert.On_top_k_unambiguous.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
